-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨4, ![2, 128, 128, 64]⟩ ⟨4, ![2, 512, 128, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨4, ![2, 128, 128, 128]⟩ ⟨4, ![2, 512, 128, 128]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x128x64 : Shape := ⟨4, ![2, 128, 128, 64]⟩
abbrev S64x128 : Shape := ⟨2, ![64, 128]⟩
abbrev S_ : Shape := ⟨0, ![]⟩

class Facts : Prop where
  bcast_S_S2x128x128x64 : S_.BroadcastsInDim S2x128x128x64 (![] : Fin 0 → Fin S2x128x128x64.rank)
  reducesTo_S2x128x128x64_S_d0_1_2_3 : S2x128x128x64.ReducesTo [0, 1, 2, 3] S_
  h_S_ : 0 < S_.numel

variable [Facts]

def fn {F : FTy → Type} [FloatOps F] (main_arg0 : FVec F S2x128x128x64 .f32) (main_arg1 : FVec F S64x128 .f32) : IVec S_ 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  let main_c : IVec S_ 1 := constantI S_ 1 1#1
  let main_v3 : IVec S_ 1 := (fun x v => Host.reduce IntOp.andi x v reducesTo_S2x128x128x64_S_d0_1_2_3 h_S_) main_v2 main_c
  main_v3
-- ==== Pre_finite_ReferenceIdeal.lean ====
abbrev S2x512x128x64 : Shape := ⟨4, ![2, 512, 128, 64]⟩
abbrev S64x128 : Shape := ⟨2, ![64, 128]⟩
abbrev S_ : Shape := ⟨0, ![]⟩

class Facts : Prop where
  bcast_S_S2x512x128x64 : S_.BroadcastsInDim S2x512x128x64 (![] : Fin 0 → Fin S2x512x128x64.rank)
  reducesTo_S2x512x128x64_S_d0_1_2_3 : S2x512x128x64.ReducesTo [0, 1, 2, 3] S_
  h_S_ : 0 < S_.numel

variable [Facts]

def fn {F : FTy → Type} [FloatOps F] (main_arg0 : FVec F S2x512x128x64 .f32) (main_arg1 : FVec F S64x128 .f32) : IVec S_ 1 :=
  let main_v0 : FVec F S2x512x128x64 .f32 := Host.absf main_arg0
  let main_cst : FVec F S_ .f32 := constant S_ .f32 0x7F800000#32
  let main_v1 : FVec F S2x512x128x64 .f32 := broadcastInDim S2x512x128x64 ![] bcast_S_S2x512x128x64 main_cst
  let main_v2 : IVec S2x512x128x64 1 := cmpf .olt main_v0 main_v1
  let main_c : IVec S_ 1 := constantI S_ 1 1#1
  let main_v3 : IVec S_ 1 := (fun x v => Host.reduce IntOp.andi x v reducesTo_S2x512x128x64_S_d0_1_2_3 h_S_) main_v2 main_c
  main_v3
-- ==== Kernel.lean ====
abbrev S2x128x128x64 : Shape := ⟨4, ![2, 128, 128, 64]⟩
abbrev S64x128 : Shape := ⟨2, ![64, 128]⟩
abbrev S2x128x64x128 : Shape := ⟨4, ![2, 128, 64, 128]⟩
abbrev S2x128x128x128 : Shape := ⟨4, ![2, 128, 128, 128]⟩
abbrev S2x2x64 : Shape := ⟨3, ![2, 2, 64]⟩
abbrev S3x2x2x64 : Shape := ⟨4, ![3, 2, 2, 64]⟩
abbrev S8 : Shape := ⟨1, ![8]⟩
abbrev S1 : Shape := ⟨1, ![1]⟩
abbrev S3 : Shape := ⟨1, ![3]⟩
abbrev S_ : Shape := ⟨0, ![]⟩
abbrev S2x16x64x128 : Shape := ⟨4, ![2, 16, 64, 128]⟩
abbrev S2x64 : Shape := ⟨2, ![2, 64]⟩
abbrev S1x2x64 : Shape := ⟨3, ![1, 2, 64]⟩
abbrev S1x2x2x64 : Shape := ⟨4, ![1, 2, 2, 64]⟩
abbrev S1x1x2x64 : Shape := ⟨4, ![1, 1, 2, 64]⟩
abbrev S2x1x64x1 : Shape := ⟨4, ![2, 1, 64, 1]⟩
abbrev S2x32x64x128 : Shape := ⟨4, ![2, 32, 64, 128]⟩
abbrev S64x64x128 : Shape := ⟨3, ![64, 64, 128]⟩
abbrev S64x128x64 : Shape := ⟨3, ![64, 128, 64]⟩
abbrev S8192x64 : Shape := ⟨2, ![8192, 64]⟩
abbrev S8192x128 : Shape := ⟨2, ![8192, 128]⟩
abbrev S2x32x128x128 : Shape := ⟨4, ![2, 32, 128, 128]⟩

abbrev nBuf : Space → Nat
  | .hbm => 4
  | .vmem => 5
  | .smem => 0
  | _ => 0

abbrev bufTy : (tb : Table) → Fin (tcTables nBuf tb) → BufTy
  | .hbm, ⟨0, _⟩ => ⟨S2x128x128x64, .f32⟩
  | .hbm, ⟨1, _⟩ => ⟨S64x128, .f32⟩
  | .hbm, ⟨2, _⟩ => ⟨S2x128x64x128, .f32⟩
  | .hbm, ⟨3, _⟩ => ⟨S2x128x128x128, .bf16⟩
  | .local _ .vmem, ⟨0, _⟩ => ⟨S2x128x128x128, .bf16⟩
  | .local _ .vmem, ⟨1, _⟩ => ⟨S2x128x64x128, .f32⟩
  | .local _ .vmem, ⟨2, _⟩ => ⟨S64x128, .f32⟩
  | .local _ .vmem, ⟨3, _⟩ => ⟨S2x2x64, .f32⟩
  | .local _ .vmem, ⟨4, _⟩ => ⟨S3x2x2x64, .f32⟩
  | _, _ => ⟨S2x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v38 : BitVec 32 := Scalar.addi v2 c1_i32_60
  let c4_i32_61 : BitVec 32 := 4#32
  let c0_i32_62 : BitVec 32 := 0#32
  let v39 : BitVec 1 := Scalar.cmpi .eq c4_i32_61 c0_i32_62
  let c1_i32_63 : BitVec 32 := 1#32
  let v40 : BitVec 32 := Scalar.select v39 c1_i32_63 c4_i32_61
  let v41 : BitVec 32 := Scalar.remsi v38 v40
  let c0_i32_65 : BitVec 32 := 0#32
  let v43 : BitVec 1 := Scalar.cmpi .slt v41 c0_i32_65
  let c0_i32_66 : BitVec 32 := 0#32
  let v44 : BitVec 1 := Scalar.cmpi .slt v40 c0_i32_66
  let v45 : BitVec 1 := Scalar.xori v43 v44
  let c0_i32_64 : BitVec 32 := 0#32
  let v42 : BitVec 1 := Scalar.cmpi .ne v41 c0_i32_64
  let v46 : BitVec 1 := Scalar.andi v45 v42
  let v47 : BitVec 32 := Scalar.addi v41 v40
  let v48 : BitVec 32 := Scalar.select v46 v47 v41
  let c1_i32_68 : BitVec 32 := 1#32
  let v49 : BitVec 32 := Scalar.muli v48 c1_i32_68
  let v50 : BitVec 32 := Scalar.addi c0_i32_69 v49
  v50.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_70 : BitVec 32 := 2#32
  let v51 : BitVec 32 := Scalar.addi v2 c2_i32_70
  let c4_i32_71 : BitVec 32 := 4#32
  let c0_i32_72 : BitVec 32 := 0#32
  let v52 : BitVec 1 := Scalar.cmpi .eq c4_i32_71 c0_i32_72
  let c1_i32_73 : BitVec 32 := 1#32
  let v53 : BitVec 32 := Scalar.select v52 c1_i32_73 c4_i32_71
  let v54 : BitVec 32 := Scalar.remsi v51 v53
  let c0_i32_75 : BitVec 32 := 0#32
  let v56 : BitVec 1 := Scalar.cmpi .slt v54 c0_i32_75
  let c0_i32_76 : BitVec 32 := 0#32
  let v57 : BitVec 1 := Scalar.cmpi .slt v53 c0_i32_76
  let v58 : BitVec 1 := Scalar.xori v56 v57
  let c0_i32_74 : BitVec 32 := 0#32
  let v55 : BitVec 1 := Scalar.cmpi .ne v54 c0_i32_74
  let v59 : BitVec 1 := Scalar.andi v58 v55
  let v60 : BitVec 32 := Scalar.addi v54 v53
  let v61 : BitVec 32 := Scalar.select v59 v60 v54
  let c1_i32_78 : BitVec 32 := 1#32
  let v62 : BitVec 32 := Scalar.muli v61 c1_i32_78
  let v63 : BitVec 32 := Scalar.addi c0_i32_79 v62
  v63.toNat
def k0_dev3 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_80 : BitVec 32 := 3#32
  let v64 : BitVec 32 := Scalar.addi v2 c3_i32_80
  let c4_i32_81 : BitVec 32 := 4#32
  let c0_i32_82 : BitVec 32 := 0#32
  let v65 : BitVec 1 := Scalar.cmpi .eq c4_i32_81 c0_i32_82
  let c1_i32_83 : BitVec 32 := 1#32
  let v66 : BitVec 32 := Scalar.select v65 c1_i32_83 c4_i32_81
  let v67 : BitVec 32 := Scalar.remsi v64 v66
  let c0_i32_85 : BitVec 32 := 0#32
  let v69 : BitVec 1 := Scalar.cmpi .slt v67 c0_i32_85
  let c0_i32_86 : BitVec 32 := 0#32
  let v70 : BitVec 1 := Scalar.cmpi .slt v66 c0_i32_86
  let v71 : BitVec 1 := Scalar.xori v69 v70
  let c0_i32_84 : BitVec 32 := 0#32
  let v68 : BitVec 1 := Scalar.cmpi .ne v67 c0_i32_84
  let v72 : BitVec 1 := Scalar.andi v71 v68
  let v73 : BitVec 32 := Scalar.addi v67 v66
  let v74 : BitVec 32 := Scalar.select v72 v73 v67
  let c1_i32_88 : BitVec 32 := 1#32
  let v75 : BitVec 32 := Scalar.muli v74 c1_i32_88
  let v76 : BitVec 32 := Scalar.addi c0_i32_89 v75
  v76.toNat
def k0_dev4 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_209 : BitVec 32 := 1#32
  let v165 : BitVec 32 := Scalar.addi v2 c1_i32_209
  let c4_i32_210 : BitVec 32 := 4#32
  let c0_i32_211 : BitVec 32 := 0#32
  let v166 : BitVec 1 := Scalar.cmpi .eq c4_i32_210 c0_i32_211
  let c1_i32_212 : BitVec 32 := 1#32
  let v167 : BitVec 32 := Scalar.select v166 c1_i32_212 c4_i32_210
  let v168 : BitVec 32 := Scalar.remsi v165 v167
  let c0_i32_214 : BitVec 32 := 0#32
  let v170 : BitVec 1 := Scalar.cmpi .slt v168 c0_i32_214
  let c0_i32_215 : BitVec 32 := 0#32
  let v171 : BitVec 1 := Scalar.cmpi .slt v167 c0_i32_215
  let v172 : BitVec 1 := Scalar.xori v170 v171
  let c0_i32_213 : BitVec 32 := 0#32
  let v169 : BitVec 1 := Scalar.cmpi .ne v168 c0_i32_213
  let v173 : BitVec 1 := Scalar.andi v172 v169
  let v174 : BitVec 32 := Scalar.addi v168 v167
  let v175 : BitVec 32 := Scalar.select v173 v174 v168
  let c1_i32_219 : BitVec 32 := 1#32
  let v176 : BitVec 32 := Scalar.muli v175 c1_i32_219
  let v177 : BitVec 32 := Scalar.addi c0_i32_220 v176
  v177.toNat
def k0_dev5 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_224 : BitVec 32 := 2#32
  let v184 : BitVec 32 := Scalar.addi v2 c2_i32_224
  let c4_i32_225 : BitVec 32 := 4#32
  let c0_i32_226 : BitVec 32 := 0#32
  let v185 : BitVec 1 := Scalar.cmpi .eq c4_i32_225 c0_i32_226
  let c1_i32_227 : BitVec 32 := 1#32
  let v186 : BitVec 32 := Scalar.select v185 c1_i32_227 c4_i32_225
  let v187 : BitVec 32 := Scalar.remsi v184 v186
  let c0_i32_229 : BitVec 32 := 0#32
  let v189 : BitVec 1 := Scalar.cmpi .slt v187 c0_i32_229
  let c0_i32_230 : BitVec 32 := 0#32
  let v190 : BitVec 1 := Scalar.cmpi .slt v186 c0_i32_230
  let v191 : BitVec 1 := Scalar.xori v189 v190
  let c0_i32_228 : BitVec 32 := 0#32
  let v188 : BitVec 1 := Scalar.cmpi .ne v187 c0_i32_228
  let v192 : BitVec 1 := Scalar.andi v191 v188
  let v193 : BitVec 32 := Scalar.addi v187 v186
  let v194 : BitVec 32 := Scalar.select v192 v193 v187
  let c1_i32_234 : BitVec 32 := 1#32
  let v195 : BitVec 32 := Scalar.muli v194 c1_i32_234
  let v196 : BitVec 32 := Scalar.addi c0_i32_235 v195
  v196.toNat
def k0_dev6 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_239 : BitVec 32 := 3#32
  let v203 : BitVec 32 := Scalar.addi v2 c3_i32_239
  let c4_i32_240 : BitVec 32 := 4#32
  let c0_i32_241 : BitVec 32 := 0#32
  let v204 : BitVec 1 := Scalar.cmpi .eq c4_i32_240 c0_i32_241
  let c1_i32_242 : BitVec 32 := 1#32
  let v205 : BitVec 32 := Scalar.select v204 c1_i32_242 c4_i32_240
  let v206 : BitVec 32 := Scalar.remsi v203 v205
  let c0_i32_244 : BitVec 32 := 0#32
  let v208 : BitVec 1 := Scalar.cmpi .slt v206 c0_i32_244
  let c0_i32_245 : BitVec 32 := 0#32
  let v209 : BitVec 1 := Scalar.cmpi .slt v205 c0_i32_245
  let v210 : BitVec 1 := Scalar.xori v208 v209
  let c0_i32_243 : BitVec 32 := 0#32
  let v207 : BitVec 1 := Scalar.cmpi .ne v206 c0_i32_243
  let v211 : BitVec 1 := Scalar.andi v210 v207
  let v212 : BitVec 32 := Scalar.addi v206 v205
  let v213 : BitVec 32 := Scalar.select v211 v212 v206
  let c1_i32_249 : BitVec 32 := 1#32
  let v214 : BitVec 32 := Scalar.muli v213 c1_i32_249
  let v215 : BitVec 32 := Scalar.addi c0_i32_250 v214
  v215.toNat
abbrev stage0_0 : Fin 1 → Memref sig .tc .vmem S2x128x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x512x128x64 : Shape := ⟨4, ![2, 512, 128, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S131072x64 : Shape := ⟨2, ![131072, 64]⟩
abbrev S131072x128 : Shape := ⟨2, ![131072, 128]⟩
abbrev S2x512x128x128 : Shape := ⟨4, ![2, 512, 128, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x512x128x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x512x128x64, .f32⟩
  | .hbm, ⟨16, _⟩ => ⟨S2x512x128x64, .f32⟩
  | .hbm, ⟨17, _⟩ => ⟨S2x512x128x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x512x128x64, .f32⟩
  | .hbm, ⟨33, _⟩ => ⟨S2x512x128x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x512x128x64, .f32⟩
  | .hbm, ⟨39, _⟩ => ⟨S2x512x128x64, .f32⟩
  | .hbm, ⟨40, _⟩ => ⟨S2x512x128x64, .f32⟩
  | .hbm, ⟨41, _⟩ => ⟨S2x512x128x64, .f32⟩
  | .hbm, ⟨42, _⟩ => ⟨S_, .f32⟩
  | .hbm, ⟨43, _⟩ => ⟨S2x512x128x64, .f32⟩
  | .hbm, ⟨44, _⟩ => ⟨S2x512x128x64, .f32⟩
  | .hbm, ⟨45, _⟩ => ⟨S2x512x128x64, .f32⟩
  | .hbm, ⟨46, _⟩ => ⟨S131072x64, .f32⟩
  | .hbm, ⟨47, _⟩ => ⟨S131072x128, .f32⟩
  | .hbm, ⟨48, _⟩ => ⟨S2x512x128x128, .f32⟩
  | .hbm, ⟨49, _⟩ => ⟨S2x512x128x128, .bf16⟩
  | _, _ => ⟨S2x512x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]
-- ==== Proof.Block.lean ====
module

public import proofs.«01_k».proof.Proof.Gen.KernelIdeal.Frame
public import proofs.«01_k».proof.Proof.Gen.KernelIdeal.Skeleton

/-!
# What one device computes

The values of the kernel's body as functions of what the device's buffers hold: the two sums a device takes over its own
eight chunks, the pair of sums it publishes, the four statistics it normalises with once the other devices' pairs have
come, and the result it stores in four pieces. Every one is stated over an arbitrary float model, by the operations the
printed kernel applies.
-/

@[expose] public section

noncomputable section

namespace Cert.Gn

open Cert.KernelIdeal Cert.KernelIdeal.Gen
open Idealize.ShloMosaic Idealize.ShloMosaic.TcCoe

variable {F : FTy → Type} [FloatOps F]

/-- A device's input, laid out channels before columns. -/
abbrev XT (F : FTy → Type) [FloatOps F] : Type := Vec F S2x128x64x128 .f32
/-- The sums one device publishes: row 0 the sum, row 1 the sum of squares, by batch entry and channel. -/
abbrev Own (F : FTy → Type) [FloatOps F] : Type := Vec F S2x2x64 .f32
/-- The sums a device has received, one slot for each of the three other devices. -/
abbrev Slots (F : FTy → Type) [FloatOps F] : Type := Vec F S3x2x2x64 .f32

/-! ## The eight chunks -/

abbrev chunk0 (X : XT F) : Vec F S2x16x64x128 .f32 := View.ld X (Rect.unit (s := S2x128x64x128) ![0, 0, 0, 0] S2x16x64x128.size inb_S2x128x64x128_S2x16x64x128_0_0_0_0)
abbrev chunk1 (X : XT F) : Vec F S2x16x64x128 .f32 := View.ld X (Rect.unit (s := S2x128x64x128) ![0, 16, 0, 0] S2x16x64x128.size inb_S2x128x64x128_S2x16x64x128_0_16_0_0)
abbrev chunk2 (X : XT F) : Vec F S2x16x64x128 .f32 := View.ld X (Rect.unit (s := S2x128x64x128) ![0, 32, 0, 0] S2x16x64x128.size inb_S2x128x64x128_S2x16x64x128_0_32_0_0)
abbrev chunk3 (X : XT F) : Vec F S2x16x64x128 .f32 := View.ld X (Rect.unit (s := S2x128x64x128) ![0, 48, 0, 0] S2x16x64x128.size inb_S2x128x64x128_S2x16x64x128_0_48_0_0)
abbrev chunk4 (X : XT F) : Vec F S2x16x64x128 .f32 := View.ld X (Rect.unit (s := S2x128x64x128) ![0, 64, 0, 0] S2x16x64x128.size inb_S2x128x64x128_S2x16x64x128_0_64_0_0)
abbrev chunk5 (X : XT F) : Vec F S2x16x64x128 .f32 := View.ld X (Rect.unit (s := S2x128x64x128) ![0, 80, 0, 0] S2x16x64x128.size inb_S2x128x64x128_S2x16x64x128_0_80_0_0)
abbrev chunk6 (X : XT F) : Vec F S2x16x64x128 .f32 := View.ld X (Rect.unit (s := S2x128x64x128) ![0, 96, 0, 0] S2x16x64x128.size inb_S2x128x64x128_S2x16x64x128_0_96_0_0)
abbrev chunk7 (X : XT F) : Vec F S2x16x64x128 .f32 := View.ld X (Rect.unit (s := S2x128x64x128) ![0, 112, 0, 0] S2x16x64x128.size inb_S2x128x64x128_S2x16x64x128_0_112_0_0)

/-! ## The device's own sums -/

/-- The running sum of the first six chunks. -/
def part1 (X : XT F) : FVec F S2x64 .f32 :=
  k0_pay5 (k0_pay3 (k0_pay1 (chunk0 X)) (chunk1 X) (chunk2 X)) (chunk3 X) (chunk4 X) (chunk5 X)
/-- The running sum of squares of the first six chunks. -/
def part2 (X : XT F) : FVec F S2x64 .f32 :=
  k0_pay6 (k0_pay4 (k0_pay2 (chunk0 X)) (chunk1 X) (chunk2 X)) (chunk3 X) (chunk4 X) (chunk5 X)
/-- The sum over rows and columns of the device's input. -/
def sum1 (X : XT F) : FVec F S2x64 .f32 := k0_pay7 (part1 X) (chunk6 X) (chunk7 X)
/-- The sum over rows and columns of the squares of the device's input. -/
def sum2 (X : XT F) : FVec F S2x64 .f32 := k0_pay8 (part2 X) (chunk6 X) (chunk7 X)

/-- The pair of sums the device publishes. -/
def ownF (X : XT F) : Own F :=
  View.canon (Val := Elt F) (e := .f32)
    [⟨Rect.unit (s := S2x2x64) ![1, 0, 0] S1x2x64.size inb_S2x2x64_S1x2x64_1_0_0, k0_pay10 (sum2 X)⟩,
     ⟨Rect.unit (s := S2x2x64) ![0, 0, 0] S1x2x64.size inb_S2x2x64_S1x2x64_0_0_0, k0_pay9 (part1 X) (chunk6 X) (chunk7 X)⟩]

/-! ## The statistics of the whole batch entry -/

abbrev slotRow (S : Slots F) (k r : ℕ) (inb : ∀ a, (![k, r, 0, 0] : Fin 4 → Nat) a + S1x1x2x64.size a ≤ S3x2x2x64.size a) : Vec F S1x1x2x64 .f32 :=
  View.ld S (Rect.unit (s := S3x2x2x64) ![k, r, 0, 0] S1x1x2x64.size inb)

/-- The sum over all four devices: the device's own and the three received. -/
def tot1 (X : XT F) (S : Slots F) : FVec F S2x64 .f32 :=
  k0_pay11 (sum1 X) (slotRow S 0 0 inb_S3x2x2x64_S1x1x2x64_0_0_0_0) (slotRow S 1 0 inb_S3x2x2x64_S1x1x2x64_1_0_0_0) (slotRow S 2 0 inb_S3x2x2x64_S1x1x2x64_2_0_0_0)
/-- The mean, shaped to be spread over rows and columns. -/
def meanF (X : XT F) (S : Slots F) : FVec F S2x1x64x1 .f32 := k0_pay13 (tot1 X S)
/-- The reciprocal square root of the variance plus epsilon, shaped likewise. -/
def invF (X : XT F) (S : Slots F) : FVec F S2x1x64x1 .f32 :=
  k0_pay14 (sum2 X) (tot1 X S) (slotRow S 0 1 inb_S3x2x2x64_S1x1x2x64_0_1_0_0) (slotRow S 1 1 inb_S3x2x2x64_S1x1x2x64_1_1_0_0) (slotRow S 2 1 inb_S3x2x2x64_S1x1x2x64_2_1_0_0)

/-! ## The result -/

abbrev rows0 (X : XT F) : Vec F S2x32x64x128 .f32 := View.ld X (Rect.unit (s := S2x128x64x128) ![0, 0, 0, 0] S2x32x64x128.size inb_S2x128x64x128_S2x32x64x128_0_0_0_0)
abbrev rows1 (X : XT F) : Vec F S2x32x64x128 .f32 := View.ld X (Rect.unit (s := S2x128x64x128) ![0, 32, 0, 0] S2x32x64x128.size inb_S2x128x64x128_S2x32x64x128_0_32_0_0)
abbrev rows2 (X : XT F) : Vec F S2x32x64x128 .f32 := View.ld X (Rect.unit (s := S2x128x64x128) ![0, 64, 0, 0] S2x32x64x128.size inb_S2x128x64x128_S2x32x64x128_0_64_0_0)
abbrev rows3 (X : XT F) : Vec F S2x32x64x128 .f32 := View.ld X (Rect.unit (s := S2x128x64x128) ![0, 96, 0, 0] S2x32x64x128.size inb_S2x128x64x128_S2x32x64x128_0_96_0_0)

/-- Thirty-two rows of the result, from the rows of the input, the two statistics and the matrix. -/
def tile (mu inv : FVec F S2x1x64x1 .f32) (W : Vec F S64x128 .f32) (x : Vec F S2x32x64x128 .f32) : FVec F S2x32x128x128 .bf16 :=
  k0_pay17 mu inv (k0_pay15 W) x

/-- The first piece is stored from the values its statistics are made of; it is the same tile. -/
theorem pay16_eq (X : XT F) (S : Slots F) (W : Vec F S64x128 .f32) (x : Vec F S2x32x64x128 .f32) :
    k0_pay16 (sum2 X) (tot1 X S) (slotRow S 0 1 inb_S3x2x2x64_S1x1x2x64_0_1_0_0) (slotRow S 1 1 inb_S3x2x2x64_S1x1x2x64_1_1_0_0) (slotRow S 2 1 inb_S3x2x2x64_S1x1x2x64_2_1_0_0) W x
      = tile (meanF X S) (invF X S) W x := rfl
/-- The third piece is the same tile; -/
theorem pay18_eq (mu inv : FVec F S2x1x64x1 .f32) (W : Vec F S64x128 .f32) (x : Vec F S2x32x64x128 .f32) :
    k0_pay18 mu inv (k0_pay15 W) x = tile mu inv W x := rfl
/-- so is the last, whose difference from the mean is taken before the store's other operand is read. -/
theorem pay20_eq (mu inv : FVec F S2x1x64x1 .f32) (W : Vec F S64x128 .f32) (x : Vec F S2x32x64x128 .f32) :
    k0_pay20 inv (k0_pay15 W) (k0_pay19 mu x) = tile mu inv W x := rfl

/-- The device's part of the result. -/
def outF (X : XT F) (W : Vec F S64x128 .f32) (S : Slots F) : Vec F S2x128x128x128 .bf16 :=
  View.canon (Val := Elt F) (e := .bf16)
    [⟨Rect.unit (s := S2x128x128x128) ![0, 96, 0, 0] S2x32x128x128.size inb_S2x128x128x128_S2x32x128x128_0_96_0_0, tile (meanF X S) (invF X S) W (rows3 X)⟩,
     ⟨Rect.unit (s := S2x128x128x128) ![0, 64, 0, 0] S2x32x128x128.size inb_S2x128x128x128_S2x32x128x128_0_64_0_0, tile (meanF X S) (invF X S) W (rows2 X)⟩,
     ⟨Rect.unit (s := S2x128x128x128) ![0, 32, 0, 0] S2x32x128x128.size inb_S2x128x128x128_S2x32x128x128_0_32_0_0, tile (meanF X S) (invF X S) W (rows1 X)⟩,
     ⟨Rect.unit (s := S2x128x128x128) ![0, 0, 0, 0] S2x32x128x128.size inb_S2x128x128x128_S2x32x128x128_0_0_0_0, tile (meanF X S) (invF X S) W (rows0 X)⟩]

/-! ## What arrives where -/

/-- The device that device `c`'s transfer `k` goes to: the one `k + 1` places after it. -/
def pe (k : Fin 3) (c : Dev nD) : Dev nD := ⟨(c.val + k.val + 1) % 4, Nat.mod_lt _ (by decide)⟩

/-- The device whose transfer `k` comes to `c` is the one `c` would reach by the opposite step. -/
theorem pe_rev (k : Fin 3) (c : Dev nD) : pe k (pe k.rev c) = c := by revert k c; decide

/-- What device `c`'s slots hold once all three transfers have landed: slot `k` the sums of the device whose transfer `k` comes to it. -/
def stF (A : Dev nD → XT F) (c : Dev nD) : Slots F := fun i => ownF (A (pe (Fin.rev (i 0)) c)) (fun a => i a.succ)

end Cert.Gn

end
-- ==== Proof.Protocol.lean ====
module

public import proofs.«01_k».proof.Proof.Block
public import Idealize.ShloMosaic.Lib.Rounds
public import Idealize.ShloMosaic.Lib.StableHlo
public import Idealize.ShloMosaic.Lib.Tactic

/-!
# The protocol of the all-to-all exchange

Each of the four devices signals the barrier cells of the three others, waits for three units on its own, then sends its
pair of sums to each of the three others, into a slot of its own choosing per step, and waits for the three that come to
it and for the three departures.

Seven cells of every device run under the rounds library, one round each. The barrier cell has three duties: device
`pe j c` pays duty `j` of device `c`'s cell and hands `c` its own slot `j`, with the fact that its receive cell `j` is in
round 0. Receive cell `k` has one duty, paid by the transfer that lands in slot `k`; it hands back the slot at what was
sent. Send cell `k` has one, paid by the departure; it hands back the share of the source lent to the transfer.
-/

@[expose] public section

noncomputable section

namespace Cert.Gn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the staging pipeline's rounds, the protocol's rounds, and the counters of local copies. -/
abbrev UB := URounds (GSem nD τ sig) (Fin 3)
abbrev UU := UR sig nD τ × (UB × Counters)

local notation "𝕄" => MT nD τ sig Unit (Elt F) ℕ UU ℕ

abbrev EP : Emb (UR sig nD τ) (MT nD τ sig Unit (Elt F) ℕ UU ℕ) := embL
/-- The protocol's rounds in the machine's algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance

/-! ## The buffers and cells, as the body spells them -/

abbrev barS : Sem sig := (SemArray.scalar (sig.barrier 0 rfl) : Sems sig S_).sem
abbrev sendS0 : DmaSem sig := ⟨10, by decide⟩
abbrev sendS1 : DmaSem sig := ⟨11, by decide⟩
abbrev sendS2 : DmaSem sig := ⟨12, by decide⟩
abbrev recvS0 : DmaSem sig := ⟨13, by decide⟩
abbrev recvS1 : DmaSem sig := ⟨14, by decide⟩
abbrev recvS2 : DmaSem sig := ⟨15, by decide⟩

abbrev sendS : Fin 3 → DmaSem sig | 0 => sendS0 | 1 => sendS1 | 2 => sendS2
abbrev recvS : Fin 3 → DmaSem sig | 0 => recvS0 | 1 => recvS1 | 2 => recvS2

theorem sendS_val (k : Fin 3) : (sendS k).val = 10 + k.val := by revert k; decide
theorem recvS_val (k : Fin 3) : (recvS k).val = 13 + k.val := by revert k; decide

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The cells one by one, as the body's semaphores name them. -/
abbrev sendCell0 (c : Dev nD) : GSem nD τ sig := ((c : Thread nD τ), .dma sendS0)
abbrev sendCell1 (c : Dev nD) : GSem nD τ sig := ((c : Thread nD τ), .dma sendS1)
abbrev sendCell2 (c : Dev nD) : GSem nD τ sig := ((c : Thread nD τ), .dma sendS2)
abbrev recvCell0 (c : Dev nD) : GSem nD τ sig := ((c : Thread nD τ), .dma recvS0)
abbrev recvCell1 (c : Dev nD) : GSem nD τ sig := ((c : Thread nD τ), .dma recvS1)
abbrev recvCell2 (c : Dev nD) : GSem nD τ sig := ((c : Thread nD τ), .dma recvS2)

abbrev ownM : Memref sig .tc .vmem S2x2x64 .f32 := Memref.whole cc0_scratch2
abbrev slotM0 : Memref sig .tc .vmem S2x2x64 .f32 :=
  ((Memref.whole cc0_scratch3).slice (Rect.unit (s := S3x2x2x64) ![0, 0, 0, 0] S1x2x2x64.size inb_S3x2x2x64_S1x2x2x64_0_0_0_0) (fun _ => rfl)).squeeze S2x2x64 squeezes_S1x2x2x64_S2x2x64
abbrev slotM1 : Memref sig .tc .vmem S2x2x64 .f32 :=
  ((Memref.whole cc0_scratch3).slice (Rect.unit (s := S3x2x2x64) ![1, 0, 0, 0] S1x2x2x64.size inb_S3x2x2x64_S1x2x2x64_1_0_0_0) (fun _ => rfl)).squeeze S2x2x64 squeezes_S1x2x2x64_S2x2x64
abbrev slotM2 : Memref sig .tc .vmem S2x2x64 .f32 :=
  ((Memref.whole cc0_scratch3).slice (Rect.unit (s := S3x2x2x64) ![2, 0, 0, 0] S1x2x2x64.size inb_S3x2x2x64_S1x2x2x64_2_0_0_0) (fun _ => rfl)).squeeze S2x2x64 squeezes_S1x2x2x64_S2x2x64
abbrev slotM : Fin 3 → Memref sig .tc .vmem S2x2x64 .f32 | 0 => slotM0 | 1 => slotM1 | 2 => slotM2

/-- What a transfer of one pair of sums credits. -/
abbrev N : ℕ := slotM0.view.dmaCredit
theorem N_pos : 0 < N := View.dmaCredit_pos _ (by decide)

/-- The shares of the source lent to the three transfers. -/
abbrev shr : Fin 3 → PosShare TreeShare | 0 => fullShare.left | 1 => fullShare.right.left | 2 => fullShare.right.right

/-- Slot `k` of device `c`, through its view. -/
abbrev slotPts (k : Fin 3) (c : Dev nD) (f : (cc0_scratch3 : Ref sig .tc).ty.Contents (Elt F)) : sProp 𝕄 :=
  match k with
  | 0 => slotM0.view.loc (c : Thread nD τ) ↦[slotM0.view.set]{fullShare} f
  | 1 => slotM1.view.loc (c : Thread nD τ) ↦[slotM1.view.set]{fullShare} f
  | 2 => slotM2.view.loc (c : Thread nD τ) ↦[slotM2.view.set]{fullShare} f

/-- A share of device `c`'s own sums. -/
abbrev ownPts (q : PosShare TreeShare) (c : Dev nD) (x : Own F) : sProp 𝕄 :=
  ownM.view.loc (c : Thread nD τ) ↦[ownM.view.set]{q} x

/-! ## The schedule -/

/-- Handed to device `c` with duty `j` of its barrier cell: slot `j` of the device that pays it, and that its receive cell `j` is in round 0. -/
def barPay (j : Fin 3) (c : Dev nD) : sProp 𝕄 := iprop((∃ f, slotPts j (pe j c) f) ∗ reached ER (recvCell j (pe j c)) 0)

variable (A : Dev nD → XT F)

/-- Handed back with receive cell `k`: slot `k` at the sums of the device whose transfer `k` comes here. -/
def recvPay (k : Fin 3) (c : Dev nD) : sProp 𝕄 := slotPts k c (stF A c)
/-- Handed back with send cell `k`: the share of the source lent. -/
def sendPay (k : Fin 3) (c : Dev nD) : sProp 𝕄 := ownPts (shr k) c (ownF (A c))

/-- Which duties a cell has. -/
abbrev dutySet : SemLoc sig → Finset (Fin 3)
  | .reg _ => {0, 1, 2}
  | .dma s => if 10 ≤ s.val then {0} else ∅
/-- What a duty hands over. -/
def payOf (c : Dev nD) (d : Fin 3) : SemLoc sig → sProp 𝕄
  | .reg _ => barPay d c
  | .dma s => if s.val < 13 then sendPay A (Fin.ofNat 3 (s.val - 10)) c else recvPay A (Fin.ofNat 3 (s.val - 13)) c

def gnRd : Rounds.Schedule (GSem nD τ sig) (Fin 3) 𝕄 where
  duties g r := if r = 0 ∧ g.1.2 = .tc then dutySet g.2 else ∅
  unitless _ := False
  amount g _ _ := match g.2 with | .reg _ => 1 | .dma _ => N
  payload g r d := payOf A g.1.1 d g.2
  amount_pos g _ _ _ := by
    cases g.2 with
    | reg _ => exact Nat.one_pos
    | dma _ => exact N_pos

instance gnRd_payload_storable (g : GSem nD τ sig) (r : ℕ) (d : Fin 3) :
    BI.Storable (upEmb : UEmb _ 𝕄) ((gnRd A).payload g r d) := by
  show BI.Storable upEmb (payOf A g.1.1 d g.2)
  cases g.2 with
  | reg _ =>
    unfold payOf barPay
    fin_cases d <;> infer_instance
  | dma s =>
    unfold payOf sendPay recvPay
    dsimp only
    split
    · infer_instance
    · generalize (Fin.ofNat 3 (s.val - 13)) = k
      fin_cases k <;> infer_instance

section Sched

variable (c : Dev nD) (k d : Fin 3)

theorem duties_bar : (gnRd A).duties (barCell c) 0 = {0, 1, 2} := by dsimp only [gnRd]; exact if_pos ⟨rfl, rfl⟩
theorem duties_send : (gnRd A).duties (sendCell k c) 0 = {0} := by
  dsimp only [gnRd]; rw [if_pos ⟨rfl, rfl⟩]; exact if_pos (by rw [sendS_val]; omega)
theorem duties_recv : (gnRd A).duties (recvCell k c) 0 = {0} := by
  dsimp only [gnRd]; rw [if_pos ⟨rfl, rfl⟩]; exact if_pos (by rw [recvS_val]; omega)
theorem duties_later (g : GSem nD τ sig) : ∀ r, 1 ≤ r → (gnRd A).duties g r = ∅ :=
  fun r hr => by dsimp only [gnRd]; rw [if_neg (fun h => by omega)]

theorem amount_bar : (gnRd A).amount (barCell c) 0 d = 1 := rfl
theorem amount_send : (gnRd A).amount (sendCell k c) 0 d = N := rfl
theorem amount_recv : (gnRd A).amount (recvCell k c) 0 d = N := rfl

theorem expect_bar : (gnRd A).expect (barCell c) 0 = 3 := by
  unfold Schedule.expect Schedule.amountOf
  rw [duties_bar, Finset.sum_congr rfl fun d _ => amount_bar A c d, Finset.sum_const]; decide
theorem expect_send : (gnRd A).expect (sendCell k c) 0 = N := by
  unfold Schedule.expect Schedule.amountOf; rw [duties_send, Finset.sum_singleton, amount_send]
theorem expect_recv : (gnRd A).expect (recvCell k c) 0 = N := by
  unfold Schedule.expect Schedule.amountOf; rw [duties_recv, Finset.sum_singleton, amount_recv]

theorem payload_bar : (gnRd A).payload (barCell c) 0 d = barPay d c := rfl
theorem payload_send : (gnRd A).payload (sendCell k c) 0 d = sendPay A k c := by
  show (if (sendS k).val < 13 then _ else _) = _
  rw [sendS_val, if_pos (by omega)]
  congr 1; fin_cases k <;> rfl
theorem payload_recv : (gnRd A).payload (recvCell k c) 0 d = recvPay A k c := by
  show (if (recvS k).val < 13 then _ else _) = _
  rw [recvS_val, if_neg (by omega)]
  congr 1; fin_cases k <;> rfl

end Sched

/-! ## What each device owes at launch; the levels -/

/-- What device `c` owes for its three transfers. -/
abbrev owedRecv (c : Dev nD) : CellTallies nD τ sig Unit :=
  tallyAt (recvCell0 (pe 0 c)) () N + tallyAt (recvCell1 (pe 1 c)) () N + tallyAt (recvCell2 (pe 2 c)) () N
/-- With its three signals. -/
abbrev O₀ (c : Dev nD) : CellTallies nD τ sig Unit :=
  owedRecv c + tallyAt (barCell (pe 0 c)) () 1 + tallyAt (barCell (pe 1 c)) () 1 + tallyAt (barCell (pe 2 c)) () 1

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma s => if 13 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 3) (c : Dev nD) (u : Unit) : lv (recvCell k c) u = 2 := by
  show (if 13 ≤ (recvS k).val then 2 else 0) = 2
  rw [recvS_val, if_pos (by omega)]

/-- Whatever is owed for the transfers is owed to a receive cell. -/
theorem owedRecv_cell (c : Dev nD) (g : GSem nD τ sig) (u : Unit) (h : 0 < owedRecv c g u) : ∃ k, g = recvCell k (pe k c) := by
  by_contra hne
  refine absurd h ?_
  have h' : ∀ k, tallyAt (recvCell k (pe k c)) () N g u = 0 := fun k => by
    rw [tallyAt_apply, if_neg (fun e => hne ⟨k, e.1⟩)]
  show ¬ 0 < tallyAt (recvCell 0 (pe 0 c)) () N g u + tallyAt (recvCell 1 (pe 1 c)) () N g u + tallyAt (recvCell 2 (pe 2 c)) () N g u
  rw [h' 0, h' 1, h' 2]; decide

/-- A cell at a level below 2 may be waited on while the transfers are owed. -/
theorem mayWait_low (c : Dev nD) (sm : SemLoc sig) (hsm : lv ((c : Thread nD τ), sm) () ≤ 1) :
    (levAts L lv : sProp 𝕄) ⊢ MayWait (c : Thread nD τ) sm () (owedRecv c) :=
  MayOwe.of_cut (L := L) (lev := lv) 1 (fun p hp => by rw [Finset.mem_singleton.mp hp, L_tc]; exact Finset.mem_singleton_self _)
    (fun g u hg => by
      obtain ⟨k, rfl⟩ := owedRecv_cell c g u hg
      rw [L_tc]; exact Finset.mem_singleton_self _)
    (fun p hp => by rw [Finset.mem_singleton.mp hp]; exact hsm)
    (fun g u hg => by
      obtain ⟨k, rfl⟩ := owedRecv_cell c g u hg
      rw [lv_recv]; decide)

/-- In particular the barrier cell; -/
theorem mayWait_bar (c : Dev nD) : (levAts L lv : sProp 𝕄) ⊢ MayWait (c : Thread nD τ) (.reg barS) () (owedRecv c) :=
  mayWait_low c _ (le_refl 1)
/-- and a semaphore of a local copy. -/
theorem mayWait_local (c : Dev nD) (s : DmaSem sig) (hs : s.val < 13) : (levAts L lv : sProp 𝕄) ⊢ MayWait (c : Thread nD τ) (.dma s) () (owedRecv c) :=
  mayWait_low c _ (by show (if 13 ≤ s.val then 2 else 0) ≤ 1; rw [if_neg (by omega)]; decide)

end Cert.Gn

end
-- ==== Proof.Pieces.lean ====
module

public import proofs.«01_k».proof.Proof.Block
public import Idealize.ShloMosaic.Lib.Pipeline.Value

/-!
# Buffers written in pieces

A buffer written in pieces that are all blocks of one function, and cover it, holds that function; a block read back of
it is the function's block. So the input's copy in eight chunks is the input, and the pair of sums stored in two rows is
the pair the device publishes.
-/

@[expose] public section

noncomputable section

namespace Cert.Gn

open Cert.KernelIdeal Cert.KernelIdeal.Gen
open Idealize.ShloMosaic Idealize.ShloMosaic.TcCoe

variable {F : FTy → Type} [FloatOps F]

/-- Pieces written through the whole of a buffer leave the canonical contents of the pieces, when they cover it. -/
theorem whole_writes_eq_canon {κ : Kind} (b : Ref sig κ) (f : b.ty.Contents (Elt F)) (L : List (View.Piece (Elt F) b.ty.shape b.ty.elt))
    (hc : ∀ y, ∃ p ∈ L, y ∈ p.1.set) : (Memref.whole b).view.writes (Elt F) f L = View.canon L :=
  (View.read_whole b _).symm.trans (View.read_writes_eq_canon (Memref.whole b).view f L hc)

/-- Blocks of one function that cover it have it for canonical contents. -/
theorem canon_of_blocks {s : Shape} {e : EltTy} (X : s.Idx → Elt F e) (L : List (View.Piece (Elt F) s e))
    (hL : ∀ p ∈ L, ∀ x : p.1.shape.Idx, p.2 x = X (p.1.emb x)) (hc : ∀ y, ∃ p ∈ L, y ∈ p.1.set) : View.canon L = X :=
  funext fun y => View.canon_apply_of_pieces X L hL y (hc y)

/-- A block read back of such pieces is the block of the function. -/
theorem readCov_of_blocks {κ : Kind} {sp : Space} {s : Shape} {e : EltTy} (v : View sig κ sp s e) (X : s.Idx → Elt F e) (L : List (View.Piece (Elt F) s e))
    (hL : ∀ p ∈ L, ∀ x : p.1.shape.Idx, p.2 x = X (p.1.emb x)) (hc : ∀ y, ∃ p ∈ L, y ∈ p.1.set) (r : Rect s) :
    v.readCov L r.toLoadRect = View.ld X r := by
  rw [View.readCov_eq_canon_ld v L r hc, canon_of_blocks X L hL hc]

/-- The eight chunks of an input, as the copies leave them, last first. -/
abbrev chunks (d0 d1 d2 d3 d4 d5 d6 d7 : Vec F S2x16x64x128 .f32) : List (View.Piece (Elt F) S2x128x64x128 .f32) :=
  [⟨Rect.unit (s := S2x128x64x128) ![0, 112, 0, 0] S2x16x64x128.size inb_S2x128x64x128_S2x16x64x128_0_112_0_0, d7⟩,
        ⟨Rect.unit (s := S2x128x64x128) ![0, 96, 0, 0] S2x16x64x128.size inb_S2x128x64x128_S2x16x64x128_0_96_0_0, d6⟩,
        ⟨Rect.unit (s := S2x128x64x128) ![0, 80, 0, 0] S2x16x64x128.size inb_S2x128x64x128_S2x16x64x128_0_80_0_0, d5⟩,
        ⟨Rect.unit (s := S2x128x64x128) ![0, 64, 0, 0] S2x16x64x128.size inb_S2x128x64x128_S2x16x64x128_0_64_0_0, d4⟩,
        ⟨Rect.unit (s := S2x128x64x128) ![0, 48, 0, 0] S2x16x64x128.size inb_S2x128x64x128_S2x16x64x128_0_48_0_0, d3⟩,
        ⟨Rect.unit (s := S2x128x64x128) ![0, 32, 0, 0] S2x16x64x128.size inb_S2x128x64x128_S2x16x64x128_0_32_0_0, d2⟩,
        ⟨Rect.unit (s := S2x128x64x128) ![0, 16, 0, 0] S2x16x64x128.size inb_S2x128x64x128_S2x16x64x128_0_16_0_0, d1⟩,
        ⟨Rect.unit (s := S2x128x64x128) ![0, 0, 0, 0] S2x16x64x128.size inb_S2x128x64x128_S2x16x64x128_0_0_0_0, d0⟩]

section Chunks

variable (X : XT F) (d0 d1 d2 d3 d4 d5 d6 d7 : Vec F S2x16x64x128 .f32)
  (h0 : d0 = chunk0 X) (h1 : d1 = chunk1 X) (h2 : d2 = chunk2 X) (h3 : d3 = chunk3 X) (h4 : d4 = chunk4 X) (h5 : d5 = chunk5 X)
  (h6 : d6 = chunk6 X) (h7 : d7 = chunk7 X)
include h0 h1 h2 h3 h4 h5 h6 h7

theorem chunks_blocks : ∀ p ∈ chunks d0 d1 d2 d3 d4 d5 d6 d7, ∀ x : p.1.shape.Idx, p.2 x = X (p.1.emb x) := by
  subst h0 h1 h2 h3 h4 h5 h6 h7
  simp only [chunks, List.forall_mem_cons]
  exact ⟨fun _ => rfl, fun _ => rfl, fun _ => rfl, fun _ => rfl, fun _ => rfl, fun _ => rfl, fun _ => rfl, fun _ => rfl, fun _ h => absurd h List.not_mem_nil⟩

/-- A load of the input's copy reads the input. -/
theorem chunks_readCov (r : Rect S2x128x64x128) :
    (Memref.whole cc0_scratch0).view.readCov (chunks d0 d1 d2 d3 d4 d5 d6 d7) r.toLoadRect = View.ld X r :=
  readCov_of_blocks _ X _ (chunks_blocks X _ _ _ _ _ _ _ _ h0 h1 h2 h3 h4 h5 h6 h7) (View.cover_of_tiled _ S2x16x64x128.size rfl) r

/-- The input's copy is the input. -/
theorem chunks_writes (f : XT F) : (Memref.whole cc0_scratch0).view.writes (Elt F) f (chunks d0 d1 d2 d3 d4 d5 d6 d7) = X :=
  (whole_writes_eq_canon cc0_scratch0 f _ (View.cover_of_tiled _ S2x16x64x128.size rfl)).trans
    (canon_of_blocks X _ (chunks_blocks X _ _ _ _ _ _ _ _ h0 h1 h2 h3 h4 h5 h6 h7) (View.cover_of_tiled _ S2x16x64x128.size rfl))

end Chunks

/-- The two rows of sums, made of the eight chunks however they were come by, are the pair the device publishes. -/
theorem own_writes (f : Own F) (X : XT F) (c0 c1 c2 c3 c4 c5 c6 c7 : Vec F S2x16x64x128 .f32)
    (h0 : c0 = chunk0 X) (h1 : c1 = chunk1 X) (h2 : c2 = chunk2 X) (h3 : c3 = chunk3 X) (h4 : c4 = chunk4 X) (h5 : c5 = chunk5 X)
    (h6 : c6 = chunk6 X) (h7 : c7 = chunk7 X) :
    (Memref.whole cc0_scratch2).view.writes (Elt F) f
      [⟨Rect.unit (s := S2x2x64) ![1, 0, 0] S1x2x64.size inb_S2x2x64_S1x2x64_1_0_0,
          k0_pay10 (k0_pay8 (k0_pay6 (k0_pay4 (k0_pay2 c0) c1 c2) c3 c4 c5) c6 c7)⟩,
        ⟨Rect.unit (s := S2x2x64) ![0, 0, 0] S1x2x64.size inb_S2x2x64_S1x2x64_0_0_0,
          k0_pay9 (k0_pay5 (k0_pay3 (k0_pay1 c0) c1 c2) c3 c4 c5) c6 c7⟩] = ownF X := by
  subst h0 h1 h2 h3 h4 h5 h6 h7
  exact whole_writes_eq_canon cc0_scratch2 f _ (View.cover_of_tiled _ S1x2x64.size rfl)

/-- The two sums, likewise, are the device's. -/
theorem sums_eq (X : XT F) (c0 c1 c2 c3 c4 c5 c6 c7 : Vec F S2x16x64x128 .f32)
    (h0 : c0 = chunk0 X) (h1 : c1 = chunk1 X) (h2 : c2 = chunk2 X) (h3 : c3 = chunk3 X) (h4 : c4 = chunk4 X) (h5 : c5 = chunk5 X)
    (h6 : c6 = chunk6 X) (h7 : c7 = chunk7 X) :
    k0_pay7 (k0_pay5 (k0_pay3 (k0_pay1 c0) c1 c2) c3 c4 c5) c6 c7 = sum1 X
      ∧ k0_pay8 (k0_pay6 (k0_pay4 (k0_pay2 c0) c1 c2) c3 c4 c5) c6 c7 = sum2 X := by
  subst h0 h1 h2 h3 h4 h5 h6 h7
  exact ⟨rfl, rfl⟩

/-- Four pieces that are each the tile of their thirty-two rows are the device's part of the result. -/
theorem out_writes (f : Vec F S2x128x128x128 .bf16) (X : XT F) (W : Vec F S64x128 .f32) (S : Slots F) (p0 p1 p2 p3 : FVec F S2x32x128x128 .bf16)
    (h0 : p0 = tile (meanF X S) (invF X S) W (rows0 X)) (h1 : p1 = tile (meanF X S) (invF X S) W (rows1 X))
    (h2 : p2 = tile (meanF X S) (invF X S) W (rows2 X)) (h3 : p3 = tile (meanF X S) (invF X S) W (rows3 X)) :
    (Memref.whole cc0_stg0_0).view.writes (Elt F) f
      [⟨Rect.unit (s := S2x128x128x128) ![0, 96, 0, 0] S2x32x128x128.size inb_S2x128x128x128_S2x32x128x128_0_96_0_0, p3⟩,
       ⟨Rect.unit (s := S2x128x128x128) ![0, 64, 0, 0] S2x32x128x128.size inb_S2x128x128x128_S2x32x128x128_0_64_0_0, p2⟩,
       ⟨Rect.unit (s := S2x128x128x128) ![0, 32, 0, 0] S2x32x128x128.size inb_S2x128x128x128_S2x32x128x128_0_32_0_0, p1⟩,
       ⟨Rect.unit (s := S2x128x128x128) ![0, 0, 0, 0] S2x32x128x128.size inb_S2x128x128x128_S2x32x128x128_0_0_0_0, p0⟩] = outF X W S := by
  subst h0 h1 h2 h3
  exact whole_writes_eq_canon cc0_stg0_0 f _ (View.cover_of_tiled _ S2x32x128x128.size rfl)

end Cert.Gn

end
-- ==== Proof.Slots.lean ====
module

public import proofs.«01_k».proof.Proof.Protocol
public import Idealize.ShloMosaic.Lib.Pipeline.Value

/-!
# The three slots

The receive buffer is three slots, each a pair of sums. A slot rewritten by a transfer of a device's sums holds what the
receiving device's slots are to hold there; the three slots are disjoint and make up the buffer.
-/

@[expose] public section

noncomputable section

namespace Cert.Gn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Dev nD → XT F) (c : Dev nD)

/-- Slot `k` of what the slots are to hold: the sums of the device whose transfer `k` comes here. -/
theorem stF_slot (k : Fin 3) (inb : ∀ a, (![k.val, 0, 0, 0] : Fin 4 → Nat) a + S1x2x2x64.size a ≤ S3x2x2x64.size a)
    (h : S2x2x64.numel = S1x2x2x64.numel) (y : S2x2x64.Idx) :
    stF A c ((Rect.unit (s := S3x2x2x64) ![k.val, 0, 0, 0] S1x2x2x64.size inb).emb (Shape.reshapeEquiv h y)) = ownF (A (pe k.rev c)) y := by
  have hy : Shape.reshapeEquiv h y = (Fin.cons ⟨0, Nat.one_pos⟩ y : S1x2x2x64.Idx) := Shape.reshapeEquiv_cons_one h y
  rw [hy]
  set i := (Rect.unit (s := S3x2x2x64) ![k.val, 0, 0, 0] S1x2x2x64.size inb).emb (Fin.cons ⟨0, Nat.one_pos⟩ y) with hi
  have h0 : i 0 = k := Fin.ext (show k.val + 1 * 0 = k.val by omega)
  have ht : (fun a : Fin 3 => i a.succ) = y := by
    funext a
    apply Fin.ext
    fin_cases a
    · exact (show 0 + 1 * (y 0).val = (y 0).val by omega)
    · exact (show 0 + 1 * (y 1).val = (y 1).val by omega)
    · exact (show 0 + 1 * (y 2).val = (y 2).val by omega)
  show ownF (A (pe (Fin.rev (i 0)) c)) (fun a : Fin 3 => i a.succ) = _
  rw [h0, ht]

/-- A view rewritten whole holds, on its elements, any contents that read as what was written. -/
theorem write_agrees {κ : Kind} {sp : Space} {s : Shape} {e : EltTy} (v : View sig κ sp s e) (f g : v.ty.Contents (Elt F)) (w : s.Idx → Elt F e)
    (hg : v.read (Elt F) g = w) : ∀ i ∈ v.set, v.write (Elt F) f w Finset.univ i = g i := by
  intro i hi
  obtain ⟨y, rfl⟩ := View.exists_emb_of_mem_set v hi
  rw [View.write_emb_of_mem _ _ (Finset.mem_univ y), ← hg, View.read_apply, cast_cast, cast_eq]

theorem slot0_holds (h : (cc0_scratch3 : Ref sig .tc).ty.Contents (Elt F)) (x : Own F) (hx : ownF (A (pe 2 c)) = x) :
    ∀ i ∈ slotM0.view.set, slotM0.view.write (Elt F) h (ownM.view.read (Elt F) x) Finset.univ i = stF A c i :=
  write_agrees _ _ _ _ (by
    rw [View.read_whole]; subst hx
    exact funext fun y => stF_slot A c 0 inb_S3x2x2x64_S1x2x2x64_0_0_0_0 _ y)
theorem slot1_holds (h : (cc0_scratch3 : Ref sig .tc).ty.Contents (Elt F)) (x : Own F) (hx : ownF (A (pe 1 c)) = x) :
    ∀ i ∈ slotM1.view.set, slotM1.view.write (Elt F) h (ownM.view.read (Elt F) x) Finset.univ i = stF A c i :=
  write_agrees _ _ _ _ (by
    rw [View.read_whole]; subst hx
    exact funext fun y => stF_slot A c 1 inb_S3x2x2x64_S1x2x2x64_1_0_0_0 _ y)
theorem slot2_holds (h : (cc0_scratch3 : Ref sig .tc).ty.Contents (Elt F)) (x : Own F) (hx : ownF (A (pe 0 c)) = x) :
    ∀ i ∈ slotM2.view.set, slotM2.view.write (Elt F) h (ownM.view.read (Elt F) x) Finset.univ i = stF A c i :=
  write_agrees _ _ _ _ (by
    rw [View.read_whole]; subst hx
    exact funext fun y => stF_slot A c 2 inb_S3x2x2x64_S1x2x2x64_2_0_0_0 _ y)

/-! ## The three slots make up the buffer -/

theorem slot0_set : slotM0.view.set = (Rect.unit (s := S3x2x2x64) ![0, 0, 0, 0] S1x2x2x64.size inb_S3x2x2x64_S1x2x2x64_0_0_0_0).set :=
  (Memref.set_view_squeeze _ _).trans (View.set_slice_whole _ _)
theorem slot1_set : slotM1.view.set = (Rect.unit (s := S3x2x2x64) ![1, 0, 0, 0] S1x2x2x64.size inb_S3x2x2x64_S1x2x2x64_1_0_0_0).set :=
  (Memref.set_view_squeeze _ _).trans (View.set_slice_whole _ _)
theorem slot2_set : slotM2.view.set = (Rect.unit (s := S3x2x2x64) ![2, 0, 0, 0] S1x2x2x64.size inb_S3x2x2x64_S1x2x2x64_2_0_0_0).set :=
  (Memref.set_view_squeeze _ _).trans (View.set_slice_whole _ _)

/-- An index of the buffer lies in the slot its leading coordinate names. -/
theorem mem_slot (k : ℕ) (inb : ∀ a, (![k, 0, 0, 0] : Fin 4 → Nat) a + S1x2x2x64.size a ≤ S3x2x2x64.size a) (i : S3x2x2x64.Idx) :
    i ∈ (Rect.unit (s := S3x2x2x64) ![k, 0, 0, 0] S1x2x2x64.size inb).set ↔ (i 0).val = k := by
  rw [Rect.mem_set_unit]
  constructor
  · intro h
    have h0 := h 0
    have e : (![k, 0, 0, 0] : Fin 4 → Nat) 0 = k := rfl
    have e' : S1x2x2x64.size 0 = 1 := rfl
    rw [e, e'] at h0; omega
  · intro h a
    fin_cases a
    · exact ⟨le_of_eq h.symm, by show (i 0).val < k + 1; omega⟩
    · exact ⟨Nat.zero_le _, by show (i 1).val < 0 + 2; have := (i 1).isLt; have e : S3x2x2x64.size 1 = 2 := rfl; omega⟩
    · exact ⟨Nat.zero_le _, by show (i 2).val < 0 + 2; have := (i 2).isLt; have e : S3x2x2x64.size 2 = 2 := rfl; omega⟩
    · exact ⟨Nat.zero_le _, by show (i 3).val < 0 + 64; have := (i 3).isLt; have e : S3x2x2x64.size 3 = 64 := rfl; omega⟩

theorem slots_disjoint01 : Disjoint slotM0.view.set slotM1.view.set := by
  rw [Finset.disjoint_left]; intro i h h'
  rw [slot0_set, mem_slot] at h; rw [slot1_set, mem_slot] at h'; omega
theorem slots_disjoint2 : Disjoint (slotM0.view.set ∪ slotM1.view.set) slotM2.view.set := by
  rw [Finset.disjoint_left]; intro i h h'
  rw [slot2_set, mem_slot] at h'
  rcases Finset.mem_union.mp h with h | h
  · rw [slot0_set, mem_slot] at h; omega
  · rw [slot1_set, mem_slot] at h; omega
theorem slots_univ : slotM0.view.set ∪ slotM1.view.set ∪ slotM2.view.set = Finset.univ := by
  refine Finset.eq_univ_of_forall fun i => ?_
  have hi : (i 0).val < 3 := (i 0).isLt
  rw [Finset.mem_union, Finset.mem_union, slot0_set, slot1_set, slot2_set]
  rw [mem_slot, mem_slot, mem_slot]; omega

section Parts
variable (q : PosShare TreeShare) (f : (cc0_scratch3 : Ref sig .tc).ty.Contents (Elt F))

/-- The three slots together are the whole buffer; -/
theorem slots_join :
    iprop(((slotM0.view.loc (c : Thread nD τ) ↦[slotM0.view.set]{q} f) ∗ (slotM1.view.loc (c : Thread nD τ) ↦[slotM1.view.set]{q} f))
        ∗ (slotM2.view.loc (c : Thread nD τ) ↦[slotM2.view.set]{q} f))
      ⊢ ((Memref.whole cc0_scratch3).view.loc (c : Thread nD τ) ↦{q} f : sProp 𝕄) := by
  rw [← slots_univ]
  exact (sep_mono_left (pointsTo_union slots_disjoint01).2).trans (pointsTo_union slots_disjoint2).2

/-- and the whole buffer is the three. -/
theorem slots_part :
    ((Memref.whole cc0_scratch3).view.loc (c : Thread nD τ) ↦{q} f : sProp 𝕄)
      ⊢ iprop(((slotM0.view.loc (c : Thread nD τ) ↦[slotM0.view.set]{q} f) ∗ (slotM1.view.loc (c : Thread nD τ) ↦[slotM1.view.set]{q} f))
        ∗ (slotM2.view.loc (c : Thread nD τ) ↦[slotM2.view.set]{q} f)) := by
  rw [← slots_univ]
  exact (pointsTo_union slots_disjoint2).1.trans (sep_mono_left (pointsTo_union slots_disjoint01).1)

end Parts

end Cert.Gn

end
-- ==== Proof.Body.lean ====
module

public import proofs.«01_k».proof.Proof.Protocol
public import proofs.«01_k».proof.Proof.Pieces
public import proofs.«01_k».proof.Proof.Slots

@[expose] public section

noncomputable section

namespace Cert.Gn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → XT F)

abbrev 𝒱₀ : Variants := Variants.none

/-! ## The devices, as the body computes them -/

theorem dev1_eq (c : Dev nD) : (⟨k0_dev1 c, k0_dev1_lt c⟩ : Dev nD) = pe 0 c := by revert c; decide +kernel
theorem dev2_eq (c : Dev nD) : (⟨k0_dev2 c, k0_dev2_lt c⟩ : Dev nD) = pe 1 c := by revert c; decide +kernel
theorem dev3_eq (c : Dev nD) : (⟨k0_dev3 c, k0_dev3_lt c⟩ : Dev nD) = pe 2 c := by revert c; decide +kernel
theorem dev4_eq (c : Dev nD) : (⟨k0_dev4 c, k0_dev4_lt c⟩ : Dev nD) = pe 0 c := by revert c; decide +kernel
theorem dev5_eq (c : Dev nD) : (⟨k0_dev5 c, k0_dev5_lt c⟩ : Dev nD) = pe 1 c := by revert c; decide +kernel
theorem dev6_eq (c : Dev nD) : (⟨k0_dev6 c, k0_dev6_lt c⟩ : Dev nD) = pe 2 c := by revert c; decide +kernel

/-! ## The schedule's tables, as the run reads them -/

theorem pe20 (c : Dev nD) : pe 2 (pe 0 c) = c := by revert c; decide
theorem pe11 (c : Dev nD) : pe 1 (pe 1 c) = c := by revert c; decide
theorem pe02 (c : Dev nD) : pe 0 (pe 2 c) = c := by revert c; decide

section Tables
variable (c : Dev nD) (d : Fin 3)

theorem pay_bar0 : (gnRd A).payload (barCell c) 0 0 = iprop((∃ f, slotM0.view.loc (pe 0 c : Thread nD τ) ↦[slotM0.view.set]{fullShare} f) ∗ reached ER (recvCell0 (pe 0 c)) 0) := rfl
theorem pay_bar1 : (gnRd A).payload (barCell c) 0 1 = iprop((∃ f, slotM1.view.loc (pe 1 c : Thread nD τ) ↦[slotM1.view.set]{fullShare} f) ∗ reached ER (recvCell1 (pe 1 c)) 0) := rfl
theorem pay_bar2 : (gnRd A).payload (barCell c) 0 2 = iprop((∃ f, slotM2.view.loc (pe 2 c : Thread nD τ) ↦[slotM2.view.set]{fullShare} f) ∗ reached ER (recvCell2 (pe 2 c)) 0) := rfl
theorem pay_send0 : (gnRd A).payload (sendCell0 c) 0 d = iprop(ownM.view.loc (c : Thread nD τ) ↦[ownM.view.set]{fullShare.left} ownF (A c)) := payload_send A c 0 d
theorem pay_send1 : (gnRd A).payload (sendCell1 c) 0 d = iprop(ownM.view.loc (c : Thread nD τ) ↦[ownM.view.set]{fullShare.right.left} ownF (A c)) := payload_send A c 1 d
theorem pay_send2 : (gnRd A).payload (sendCell2 c) 0 d = iprop(ownM.view.loc (c : Thread nD τ) ↦[ownM.view.set]{fullShare.right.right} ownF (A c)) := payload_send A c 2 d
theorem pay_recv0 : (gnRd A).payload (recvCell0 c) 0 d = iprop(slotM0.view.loc (c : Thread nD τ) ↦[slotM0.view.set]{fullShare} stF A c) := payload_recv A c 0 d
theorem pay_recv1 : (gnRd A).payload (recvCell1 c) 0 d = iprop(slotM1.view.loc (c : Thread nD τ) ↦[slotM1.view.set]{fullShare} stF A c) := payload_recv A c 1 d
theorem pay_recv2 : (gnRd A).payload (recvCell2 c) 0 d = iprop(slotM2.view.loc (c : Thread nD τ) ↦[slotM2.view.set]{fullShare} stF A c) := payload_recv A c 2 d

theorem pay_sig0 : (gnRd A).payload (barCell (pe 0 c)) 0 2 = iprop((∃ f, slotM2.view.loc (c : Thread nD τ) ↦[slotM2.view.set]{fullShare} f) ∗ reached ER (recvCell2 c) 0) := by
  rw [pay_bar2, pe20]
theorem pay_sig1 : (gnRd A).payload (barCell (pe 1 c)) 0 1 = iprop((∃ f, slotM1.view.loc (c : Thread nD τ) ↦[slotM1.view.set]{fullShare} f) ∗ reached ER (recvCell1 c) 0) := by
  rw [pay_bar1, pe11]
theorem pay_sig2 : (gnRd A).payload (barCell (pe 2 c)) 0 0 = iprop((∃ f, slotM0.view.loc (c : Thread nD τ) ↦[slotM0.view.set]{fullShare} f) ∗ reached ER (recvCell0 c) 0) := by
  rw [pay_bar0, pe02]

/-- What transfer 0 leaves in the peer's slot is what the peer's receive cell hands over. -/
theorem arrives0 (h : (cc0_scratch3 : Ref sig .tc).ty.Contents (Elt F)) :
    (slotM0.view.loc (pe 0 c : Thread nD τ) ↦[slotM0.view.set]{fullShare} slotM0.view.write (Elt F) h (ownM.view.read (Elt F) (ownF (A c))) Finset.univ)
      ⊢ (gnRd A).payload (recvCell0 (pe 0 c)) 0 0 := by
  rw [pay_recv0]
  exact Entails.of_eq (pointsTo_congr (slot0_holds A (pe 0 c) h (ownF (A c)) (by rw [pe20])))
/-- What transfer 1 leaves in the peer's slot is what the peer's receive cell hands over. -/
theorem arrives1 (h : (cc0_scratch3 : Ref sig .tc).ty.Contents (Elt F)) :
    (slotM1.view.loc (pe 1 c : Thread nD τ) ↦[slotM1.view.set]{fullShare} slotM1.view.write (Elt F) h (ownM.view.read (Elt F) (ownF (A c))) Finset.univ)
      ⊢ (gnRd A).payload (recvCell1 (pe 1 c)) 0 0 := by
  rw [pay_recv1]
  exact Entails.of_eq (pointsTo_congr (slot1_holds A (pe 1 c) h (ownF (A c)) (by rw [pe11])))
/-- What transfer 2 leaves in the peer's slot is what the peer's receive cell hands over. -/
theorem arrives2 (h : (cc0_scratch3 : Ref sig .tc).ty.Contents (Elt F)) :
    (slotM2.view.loc (pe 2 c : Thread nD τ) ↦[slotM2.view.set]{fullShare} slotM2.view.write (Elt F) h (ownM.view.read (Elt F) (ownF (A c))) Finset.univ)
      ⊢ (gnRd A).payload (recvCell2 (pe 2 c)) 0 0 := by
  rw [pay_recv2]
  exact Entails.of_eq (pointsTo_congr (slot2_holds A (pe 2 c) h (ownF (A c)) (by rw [pe02])))

theorem amt_send0 : (gnRd A).amount (sendCell0 c) 0 d = N := amount_send A c 0 d
theorem amt_send1 : (gnRd A).amount (sendCell1 c) 0 d = N := amount_send A c 1 d
theorem amt_send2 : (gnRd A).amount (sendCell2 c) 0 d = N := amount_send A c 2 d
theorem amt_recv0 : (gnRd A).amount (recvCell0 c) 0 d = N := amount_recv A c 0 d
theorem amt_recv1 : (gnRd A).amount (recvCell1 c) 0 d = N := amount_recv A c 1 d
theorem amt_recv2 : (gnRd A).amount (recvCell2 c) 0 d = N := amount_recv A c 2 d
theorem exp_send0 : (gnRd A).expect (sendCell0 c) 0 = N := expect_send A c 0
theorem exp_send1 : (gnRd A).expect (sendCell1 c) 0 = N := expect_send A c 1
theorem exp_send2 : (gnRd A).expect (sendCell2 c) 0 = N := expect_send A c 2
theorem exp_recv0 : (gnRd A).expect (recvCell0 c) 0 = N := expect_recv A c 0
theorem exp_recv1 : (gnRd A).expect (recvCell1 c) 0 = N := expect_recv A c 1
theorem exp_recv2 : (gnRd A).expect (recvCell2 c) 0 = N := expect_recv A c 2
theorem dut_send0 : (gnRd A).duties (sendCell0 c) 0 = {0} := duties_send A c 0
theorem dut_send1 : (gnRd A).duties (sendCell1 c) 0 = {0} := duties_send A c 1
theorem dut_send2 : (gnRd A).duties (sendCell2 c) 0 = {0} := duties_send A c 2
theorem dut_recv0 : (gnRd A).duties (recvCell0 c) 0 = {0} := duties_recv A c 0
theorem dut_recv1 : (gnRd A).duties (recvCell1 c) 0 = {0} := duties_recv A c 1
theorem dut_recv2 : (gnRd A).duties (recvCell2 c) 0 = {0} := duties_recv A c 2

theorem mem_bar : d ∈ (gnRd A).duties (barCell c) 0 := by rw [duties_bar]; revert d; decide
theorem mem_send (k : Fin 3) : (0 : Fin 3) ∈ (gnRd A).duties (sendCell k c) 0 := by rw [duties_send]; exact Finset.mem_singleton_self _
theorem mem_recv (k : Fin 3) : (0 : Fin 3) ∈ (gnRd A).duties (recvCell k c) 0 := by rw [duties_recv]; exact Finset.mem_singleton_self _
end Tables

/-- A cell whose one round is over closes: its counter is back in hand at zero. -/
theorem close (κ : ℕ) (g : GSem nD τ sig) :
    iprop(cellInv ER (gnRd A) κ g ∗ atPos ER g (0 + 1) ∅ 0) ⊢ (|={Set.univ}=> semVal g 0 : sProp 𝕄) :=
  Rounds.cell_close ER (gnRd A) (Set.mem_univ κ) id (duties_later A g)

attribute [local irreducible] pe gnRd
attribute [local sl_rounds high] pay_sig0 pay_sig1 pay_sig2
attribute [local sl_rounds] pe20 pe11 pe02 pay_bar0 pay_bar1 pay_bar2 pay_send0 pay_send1 pay_send2 pay_recv0 pay_recv1 pay_recv2
  duties_bar amount_bar expect_bar amt_send0 amt_send1 amt_send2 amt_recv0 amt_recv1 amt_recv2 exp_send0 exp_send1 exp_send2 exp_recv0 exp_recv1 exp_recv2 dut_send0 dut_send1 dut_send2 dut_recv0 dut_recv1 dut_recv2

/-! ## What a device enters the body with -/

/-- The invariants device `c` opens: its own seven cells', and its peers' barrier and receive cells'. -/
def invs (K : GSem nD τ sig → ℕ) (c : Dev nD) : sProp 𝕄 :=
  iprop(cellInv ER (gnRd A) (K (barCell c)) (barCell c)
    ∗ cellInv ER (gnRd A) (K (sendCell0 c)) (sendCell0 c) ∗ cellInv ER (gnRd A) (K (sendCell1 c)) (sendCell1 c) ∗ cellInv ER (gnRd A) (K (sendCell2 c)) (sendCell2 c)
    ∗ cellInv ER (gnRd A) (K (recvCell0 c)) (recvCell0 c) ∗ cellInv ER (gnRd A) (K (recvCell1 c)) (recvCell1 c) ∗ cellInv ER (gnRd A) (K (recvCell2 c)) (recvCell2 c)
    ∗ cellInv ER (gnRd A) (K (barCell (pe 0 c))) (barCell (pe 0 c)) ∗ cellInv ER (gnRd A) (K (barCell (pe 1 c))) (barCell (pe 1 c)) ∗ cellInv ER (gnRd A) (K (barCell (pe 2 c))) (barCell (pe 2 c))
    ∗ cellInv ER (gnRd A) (K (recvCell0 (pe 0 c))) (recvCell0 (pe 0 c)) ∗ cellInv ER (gnRd A) (K (recvCell1 (pe 1 c))) (recvCell1 (pe 1 c)) ∗ cellInv ER (gnRd A) (K (recvCell2 (pe 2 c))) (recvCell2 (pe 2 c)))

instance invs_persistent (K : GSem nD τ sig → ℕ) (c : Dev nD) : BI.Persistent (invs A K c) := by unfold invs; infer_instance

/-- The duty tokens device `c` pays with: a unit of each peer's barrier cell, the arrival of each transfer and its departure. -/
def toks (c : Dev nD) : sProp 𝕄 :=
  iprop(dutyTok ER (barCell (pe 0 c)) 0 2 ∗ dutyTok ER (barCell (pe 1 c)) 0 1 ∗ dutyTok ER (barCell (pe 2 c)) 0 0
    ∗ (dutyTok ER (recvCell0 (pe 0 c)) 0 0 ∗ dutyTok ER (recvCell1 (pe 1 c)) 0 0 ∗ dutyTok ER (recvCell2 (pe 2 c)) 0 0)
    ∗ (dutyTok ER (sendCell0 c) 0 0 ∗ dutyTok ER (sendCell1 c) 0 0 ∗ dutyTok ER (sendCell2 c) 0 0))

/-- Its positions at the start of round 0 of its own cells. -/
def poss (c : Dev nD) : sProp 𝕄 :=
  iprop(atPos ER (barCell c) 0 ∅ 0
    ∗ (atPos ER (sendCell0 c) 0 ∅ 0 ∗ atPos ER (sendCell1 c) 0 ∅ 0 ∗ atPos ER (sendCell2 c) 0 ∅ 0)
    ∗ (atPos ER (recvCell0 c) 0 ∅ 0 ∗ atPos ER (recvCell1 c) 0 ∅ 0 ∗ atPos ER (recvCell2 c) 0 ∅ 0))

/-- The rounds it knows to be reached. -/
def rchs (c : Dev nD) : sProp 𝕄 :=
  iprop((reached ER (barCell (pe 0 c)) 0 ∗ reached ER (barCell (pe 1 c)) 0 ∗ reached ER (barCell (pe 2 c)) 0)
    ∗ (reached ER (sendCell0 c) 0 ∗ reached ER (sendCell1 c) 0 ∗ reached ER (sendCell2 c) 0)
    ∗ (reached ER (recvCell0 c) 0 ∗ reached ER (recvCell1 c) 0 ∗ reached ER (recvCell2 c) 0))

/-- The credit it waits with. -/
def creds (c : Dev nD) : sProp 𝕄 :=
  iprop(cred (tallyAt (barCell c) () 3) ∗ (cred (tallyAt (recvCell0 c) () N) ∗ cred (tallyAt (recvCell1 c) () N) ∗ cred (tallyAt (recvCell2 c) () N)))

abbrev inS0 : DmaSem sig := ⟨1, by decide⟩
abbrev inS1 : DmaSem sig := ⟨2, by decide⟩
abbrev inS2 : DmaSem sig := ⟨3, by decide⟩
abbrev inS3 : DmaSem sig := ⟨4, by decide⟩
abbrev inS4 : DmaSem sig := ⟨5, by decide⟩
abbrev inS5 : DmaSem sig := ⟨6, by decide⟩
abbrev inS6 : DmaSem sig := ⟨7, by decide⟩
abbrev inS7 : DmaSem sig := ⟨8, by decide⟩
abbrev wpS : DmaSem sig := ⟨9, by decide⟩

/-- The counters of the local copies, at zero. -/
def locals (c : Dev nD) : sProp 𝕄 :=
  iprop(semVal ((c : Thread nD τ), .dma inS0) 0 ∗ semVal ((c : Thread nD τ), .dma inS1) 0 ∗ semVal ((c : Thread nD τ), .dma inS2) 0 ∗ semVal ((c : Thread nD τ), .dma inS3) 0
    ∗ semVal ((c : Thread nD τ), .dma inS4) 0 ∗ semVal ((c : Thread nD τ), .dma inS5) 0 ∗ semVal ((c : Thread nD τ), .dma inS6) 0 ∗ semVal ((c : Thread nD τ), .dma inS7) 0
    ∗ semVal ((c : Thread nD τ), .dma wpS) 0)

/-- The memory location of a buffer of device `c`. -/
abbrev pt (c : Dev nD) (b : Ref sig .tc) (f : b.ty.Contents (Elt F)) : sProp 𝕄 := (Memref.whole b).view.loc (c : Thread nD τ) ↦{fullShare} f

section Shares
variable (c : Dev nD)
/-- The shares of the device's own sums lent to the three transfers; -/
theorem own_part (x : Own F) : (pt c cc0_scratch2 x : sProp 𝕄)
    ⊢ iprop((ownM.view.loc (c : Thread nD τ) ↦[ownM.view.set]{fullShare.left} x) ∗ (ownM.view.loc (c : Thread nD τ) ↦[ownM.view.set]{fullShare.right.left} x)
      ∗ (ownM.view.loc (c : Thread nD τ) ↦[ownM.view.set]{fullShare.right.right} x)) := by
  rw [View.set_whole]
  exact (pointsTo_share (PosShare.mem_left_op_right fullShare)).1.trans (sep_mono_right (pointsTo_share (PosShare.mem_left_op_right fullShare.right)).1)
/-- and they are together the whole. -/
theorem own_join (x : Own F) :
    iprop((ownM.view.loc (c : Thread nD τ) ↦[ownM.view.set]{fullShare.left} x) ∗ (ownM.view.loc (c : Thread nD τ) ↦[ownM.view.set]{fullShare.right.left} x)
      ∗ (ownM.view.loc (c : Thread nD τ) ↦[ownM.view.set]{fullShare.right.right} x)) ⊢ (pt c cc0_scratch2 x : sProp 𝕄) := by
  rw [View.set_whole]
  exact (sep_mono_right (pointsTo_share (PosShare.mem_left_op_right fullShare.right)).2).trans (pointsTo_share (PosShare.mem_left_op_right fullShare)).2

end Shares

/-- What a device enters the body with. -/
def bodyPre (K : GSem nD τ sig → ℕ) (c : Dev nD) (W : Vec F S64x128 .f32) (Wt : Waits sig Unit) : sProp 𝕄 :=
  iprop(invs A K c ∗ toks c ∗ poss c ∗ rchs c ∗ creds c ∗ locals c ∗ levAts L lv
    ∗ pt c main_v1 (A c) ∗ pt c main_arg1 W ∗ (∃ f, pt c cc0_stg0_0 f)
    ∗ (∃ f, pt c cc0_scratch0 f) ∗ (∃ f, pt c cc0_scratch1 f) ∗ (∃ f, pt c cc0_scratch2 f)
    ∗ (∃ f, slotM2.view.loc (c : Thread nD τ) ↦[slotM2.view.set]{fullShare} f)
    ∗ (∃ f, slotM1.view.loc (c : Thread nD τ) ↦[slotM1.view.set]{fullShare} f)
    ∗ (∃ f, slotM0.view.loc (c : Thread nD τ) ↦[slotM0.view.set]{fullShare} f)
    ∗ owes (c : Thread nD τ) (O₀ c) Wt)

/-- What it leaves it with: every counter back at zero, the result in its buffer, the operands as they were, nothing owed. -/
def bodyPost (c : Dev nD) (W : Vec F S64x128 .f32) : sProp 𝕄 :=
  iprop(semVal (barCell c) 0
    ∗ (semVal (sendCell0 c) 0 ∗ semVal (sendCell1 c) 0 ∗ semVal (sendCell2 c) 0)
    ∗ (semVal (recvCell0 c) 0 ∗ semVal (recvCell1 c) 0 ∗ semVal (recvCell2 c) 0)
    ∗ locals c
    ∗ pt c main_v1 (A c) ∗ pt c main_arg1 W ∗ pt c cc0_stg0_0 (outF (A c) W (stF A c))
    ∗ (∃ f, pt c cc0_scratch0 f) ∗ (∃ f, pt c cc0_scratch1 f) ∗ (∃ f, pt c cc0_scratch2 f) ∗ (∃ f, pt c cc0_scratch3 f)
    ∗ ∃ Wt, owes (c : Thread nD τ) (0 : CellTallies nD τ sig Unit) Wt)

set_option sl_exec.dmaWindow true in
set_option maxHeartbeats 4000000 in
/-- The body, run: from what a device enters it with to what it leaves it with. -/
theorem bodyRun (K : GSem nD τ sig → ℕ) (c : Dev nD) (W : Vec F S64x128 .f32) (Wt : Waits sig Unit) (Kt : PUnit → sProp 𝕄) :
    iprop(bodyPre A K c W Wt ∗ (bodyPost A c W -∗ Kt ⟨⟩))
      ⊢ wp frame (wpE (defs₀ (F := F)) 𝒱₀ c none) Set.univ (Gen.bodyAt0 (F := F) Gen.t0_0) Kt := by
  have hd1 := dev1_eq c
  have hd2 := dev2_eq c
  have hd3 := dev3_eq c
  have hd4 := dev4_eq c
  have hd5 := dev5_eq c
  have hd6 := dev6_eq c
  have hmb : (levAts L lv : sProp 𝕄) ⊢ MayWait (c : Thread nD τ) (.reg barS) () (owedRecv c) := mayWait_bar c
  have hml : ∀ s : DmaSem sig, s.val < 13 → ((levAts L lv : sProp 𝕄) ⊢ MayWait (c : Thread nD τ) (.dma s) () (owedRecv c)) := mayWait_local c
  unfold bodyPre invs toks poss rchs creds locals
  unfold O₀
  unfold owedRecv at *
  iintro ⟨⟨⟨#HIb, #HIs0, #HIs1, #HIs2, #HIr0, #HIr1, #HIr2, #HIb0, #HIb1, #HIb2, #HIq0, #HIq1, #HIq2⟩,
    ⟨Htb0, Htb1, Htb2, ⟨Htr0, Htr1, Htr2⟩, ⟨Hts0, Hts1, Hts2⟩⟩,
    ⟨Hab, ⟨Has0, Has1, Has2⟩, ⟨Har0, Har1, Har2⟩⟩,
    ⟨⟨#Hrb0, #Hrb1, #Hrb2⟩, ⟨#Hrs0, #Hrs1, #Hrs2⟩, ⟨#Hrr0, #Hrr1, #Hrr2⟩⟩,
    ⟨Hcb, ⟨Hcr0, Hcr1, Hcr2⟩⟩,
    ⟨Hi0, Hi1, Hi2, Hi3, Hi4, Hi5, Hi6, Hi7, Hiw⟩, #Hlev,
    Hx, HW, ⟨%fo, Ho⟩, ⟨%f0, Hxv⟩, ⟨%f1, Hwv⟩, ⟨%f2, Hown⟩, ⟨%g2, Hs2⟩, ⟨%g1, Hs1⟩, ⟨%g0, Hs0⟩, HO⟩, Hk⟩
  unfold Gen.bodyAt0 cc0_body
  sl_exec
  ihave Hab_pay1 : iprop(((∃ f, slotM0.view.loc (pe 0 c : Thread nD τ) ↦[slotM0.view.set]{fullShare} f) ∗ reached ER (recvCell0 (pe 0 c)) 0)
      ∗ ((∃ f, slotM1.view.loc (pe 1 c : Thread nD τ) ↦[slotM1.view.set]{fullShare} f) ∗ reached ER (recvCell1 (pe 1 c)) 0)
      ∗ ((∃ f, slotM2.view.loc (pe 2 c : Thread nD τ) ↦[slotM2.view.set]{fullShare} f) ∗ reached ER (recvCell2 (pe 2 c)) 0)) $$ [Hab_pay1]
  · iexact Hab_pay1
  icases Hab_pay1 with ⟨⟨⟨%h0, Hp0⟩, #Hq0⟩, Hpay1⟩
  have hrd : ∀ r : Rect S2x128x64x128, (Memref.whole cc0_scratch0).view.readCov (chunks (bodyRun.sl.dma0 A c) (bodyRun.sl.dma0_1 A c) (bodyRun.sl.dma0_2 A c)
      (bodyRun.sl.dma0_3 A c) (bodyRun.sl.dma0_4 A c) (bodyRun.sl.dma0_5 A c) (bodyRun.sl.dma0_6 A c) (bodyRun.sl.dma0_7 A c)) r.toLoadRect = View.ld (A c) r :=
    chunks_readCov (A c) _ _ _ _ _ _ _ _ rfl rfl rfl rfl rfl rfl rfl rfl
  have hown : (Memref.whole cc0_scratch2).view.writes (Elt F) f2
      [⟨Rect.unit (s := S2x2x64) ![1, 0, 0] S1x2x64.size inb_S2x2x64_S1x2x64_1_0_0, bodyRun.sl.v164 A c⟩,
        ⟨Rect.unit (s := S2x2x64) ![0, 0, 0] S1x2x64.size inb_S2x2x64_S1x2x64_0_0_0,
          k0_pay9 (bodyRun.sl.r_4 A c) (bodyRun.sl.v143 A c) (bodyRun.sl.v153 A c)⟩] = ownF (A c) := own_writes f2 (A c) (bodyRun.sl.v83 A c) (bodyRun.sl.v93 A c) (bodyRun.sl.v103 A c) (bodyRun.sl.v113 A c) (bodyRun.sl.v123 A c)
    (bodyRun.sl.v133 A c) (bodyRun.sl.v143 A c) (bodyRun.sl.v153 A c) (hrd _) (hrd _) (hrd _) (hrd _) (hrd _) (hrd _) (hrd _) (hrd _)
  ihave Hown := (Entails.of_eq (congrArg (fun g => (Memref.whole cc0_scratch2).view.loc (c : Thread nD τ) ↦{fullShare} g) hown)) $$ Hown
  ihave Hxv := (Entails.of_eq (congrArg (fun g => (Memref.whole cc0_scratch0).view.loc (c : Thread nD τ) ↦{fullShare} g)
    (chunks_writes (A c) (bodyRun.sl.dma0 A c) (bodyRun.sl.dma0_1 A c) (bodyRun.sl.dma0_2 A c) (bodyRun.sl.dma0_3 A c)
      (bodyRun.sl.dma0_4 A c) (bodyRun.sl.dma0_5 A c) (bodyRun.sl.dma0_6 A c) (bodyRun.sl.dma0_7 A c) rfl rfl rfl rfl rfl rfl rfl rfl f0))) $$ Hxv
  have hsum : bodyRun.sl.r_6 A c = sum1 (A c) ∧ bodyRun.sl.r_7 A c = sum2 (A c) :=
    sums_eq (A c) (bodyRun.sl.v83 A c) (bodyRun.sl.v93 A c) (bodyRun.sl.v103 A c) (bodyRun.sl.v113 A c) (bodyRun.sl.v123 A c)
      (bodyRun.sl.v133 A c) (bodyRun.sl.v143 A c) (bodyRun.sl.v153 A c) (hrd _) (hrd _) (hrd _) (hrd _) (hrd _) (hrd _) (hrd _) (hrd _)
  ihave Hown := (own_part c (ownF (A c))) $$ Hown
  icases Hown with ⟨Hown0, Hown1, Hown2⟩
  iapply (Rounds.wp_send_pointsTo 𝒱₀ ER (gnRd A) (c : Thread nD τ) none (c' := (pe 0 c : Thread nD τ)) (src := ownM) (dst := slotM0)
      (sS := .dma sendS0) (sem := .dma recvS0) (q := fullShare.left) (fs := ownF (A c)) (κ₁ := K (sendCell0 c)) (κ₂ := K (recvCell0 (pe 0 c)))
      (r₁ := 0) (r₂ := 0) (d₁ := 0) (d₂ := 0) (fd := h0)
      (O₀ := tallyAt (recvCell0 (pe 0 c)) () N + tallyAt (recvCell1 (pe 1 c)) () N + tallyAt (recvCell2 (pe 2 c)) () N)
      (mem_send A c 0) (mem_recv A (pe 0 c) 0) () () N rfl (amt_send0 A c 0) (amt_recv0 A (pe 0 c) 0)
      (tallyAt (recvCell1 (pe 1 c)) () N + tallyAt (recvCell2 (pe 2 c)) () N) (by rw [add_assoc, add_comm])
      (Entails.of_eq (pay_send0 A c 0).symm) (arrives0 A c h0)) $$ [Hown0 Hp0 HO Hts0 Htr0]
  · isplitr; · iexact HIs0
    isplitr; · iexact HIq0
    isplitl [Hown0]; · iexact Hown0
    isplitl [Hp0]; · iexact Hp0
    isplitl [HO]; · iexact HO
    isplitl [Hts0]; · iexact Hts0
    isplitr; · iexact Hrs0
    isplitl [Htr0]; · iexact Htr0
    iexact Hq0
  iintro ⟨Hcs0, HO⟩
  sl_exec
  icases Hpay1 with ⟨⟨⟨%h1, Hp1⟩, #Hq1⟩, Hpay2⟩
  iapply (Rounds.wp_send_pointsTo 𝒱₀ ER (gnRd A) (c : Thread nD τ) none (c' := (pe 1 c : Thread nD τ)) (src := ownM) (dst := slotM1)
      (sS := .dma sendS1) (sem := .dma recvS1) (q := fullShare.right.left) (fs := ownF (A c)) (κ₁ := K (sendCell1 c)) (κ₂ := K (recvCell1 (pe 1 c)))
      (r₁ := 0) (r₂ := 0) (d₁ := 0) (d₂ := 0) (fd := h1)
      (O₀ := tallyAt (recvCell1 (pe 1 c)) () N + tallyAt (recvCell2 (pe 2 c)) () N)
      (mem_send A c 1) (mem_recv A (pe 1 c) 1) () () N rfl (amt_send1 A c 0) (amt_recv1 A (pe 1 c) 0)
      (tallyAt (recvCell2 (pe 2 c)) () N) (add_comm _ _)
      (Entails.of_eq (pay_send1 A c 0).symm) (arrives1 A c h1)) $$ [Hown1 Hp1 HO Hts1 Htr1]
  · isplitr; · iexact HIs1
    isplitr; · iexact HIq1
    isplitl [Hown1]; · iexact Hown1
    isplitl [Hp1]; · iexact Hp1
    isplitl [HO]; · iexact HO
    isplitl [Hts1]; · iexact Hts1
    isplitr; · iexact Hrs1
    isplitl [Htr1]; · iexact Htr1
    iexact Hq1
  iintro ⟨Hcs1, HO⟩
  sl_exec
  icases Hpay2 with ⟨⟨%h2, Hp2⟩, #Hq2⟩
  iapply (Rounds.wp_send_pointsTo 𝒱₀ ER (gnRd A) (c : Thread nD τ) none (c' := (pe 2 c : Thread nD τ)) (src := ownM) (dst := slotM2)
      (sS := .dma sendS2) (sem := .dma recvS2) (q := fullShare.right.right) (fs := ownF (A c)) (κ₁ := K (sendCell2 c)) (κ₂ := K (recvCell2 (pe 2 c)))
      (r₁ := 0) (r₂ := 0) (d₁ := 0) (d₂ := 0) (fd := h2)
      (O₀ := tallyAt (recvCell2 (pe 2 c)) () N)
      (mem_send A c 2) (mem_recv A (pe 2 c) 2) () () N rfl (amt_send2 A c 0) (amt_recv2 A (pe 2 c) 0)
      (0) (by rw [zero_add])
      (Entails.of_eq (pay_send2 A c 0).symm) (arrives2 A c h2)) $$ [Hown2 Hp2 HO Hts2 Htr2]
  · isplitr; · iexact HIs2
    isplitr; · iexact HIq2
    isplitl [Hown2]; · iexact Hown2
    isplitl [Hp2]; · iexact Hp2
    isplitl [HO]; · iexact HO
    isplitl [Hts2]; · iexact Hts2
    isplitr; · iexact Hrs2
    isplitl [Htr2]; · iexact Htr2
    iexact Hq2
  iintro ⟨Hcs2, HO⟩
  sl_exec
  have hs1 : bodyRun.sl.r_6 A c = sum1 (A c) := hsum.1
  have hs2 : bodyRun.sl.r_7 A c = sum2 (A c) := hsum.2
  have hwt : bodyRun.sl.v271 W f1 = W := by
    unfold bodyRun.sl.v271
    rw [View.write_whole_univ]
    exact Memref.readAt_unit_zero (Elt F) cc0_scratch1 (off := ![0, 0]) (by funext a; fin_cases a <;> rfl) _ W
  have e8 : bodyRun.sl.r_8 A c = tot1 (A c) (stF A c) := by
    unfold bodyRun.sl.r_8
    rw [hs1]; rfl
  have e10 : bodyRun.sl.r_10 A c = meanF (A c) (stF A c) := by
    unfold bodyRun.sl.r_10
    rw [e8]; rfl
  have e11 : bodyRun.sl.r_11 A c = invF (A c) (stF A c) := by
    unfold bodyRun.sl.r_11 bodyRun.sl.r_9
    rw [hs2, e8]; rfl
  have e12 : bodyRun.sl.r_12 W f1 = k0_pay15 W := by
    unfold bodyRun.sl.r_12
    rw [hwt]
  have e13 : bodyRun.sl.r_13 A c W f1 = tile (meanF (A c) (stF A c)) (invF (A c) (stF A c)) W (rows0 (A c)) := by
    unfold bodyRun.sl.r_13 bodyRun.sl.r_9
    rw [hs2, e8, hwt]; exact pay16_eq (A c) (stF A c) W (rows0 (A c))
  have e14 : bodyRun.sl.r_14 A c = k0_pay19 (meanF (A c) (stF A c)) (rows3 (A c)) := by
    unfold bodyRun.sl.r_14
    rw [e10]; rfl
  have hout : (Memref.whole cc0_stg0_0).view.writes (Elt F) fo
      [⟨Rect.unit (s := S2x128x128x128) ![0, 96, 0, 0] S2x32x128x128.size inb_S2x128x128x128_S2x32x128x128_0_96_0_0,
          k0_pay20 (bodyRun.sl.r_11 A c) (bodyRun.sl.r_12 W f1) (bodyRun.sl.r_14 A c)⟩,
        ⟨Rect.unit (s := S2x128x128x128) ![0, 64, 0, 0] S2x32x128x128.size inb_S2x128x128x128_S2x32x128x128_0_64_0_0,
          k0_pay18 (bodyRun.sl.r_10 A c) (bodyRun.sl.r_11 A c) (bodyRun.sl.r_12 W f1)
            (View.readAt (Elt F) (Memref.whole cc0_scratch0).view
              (Rect.unit (s := S2x128x64x128) ![0, 64, 0, 0] S2x32x64x128.size inb_S2x128x64x128_S2x32x64x128_0_64_0_0).toLoadRect (A c))⟩,
        ⟨Rect.unit (s := S2x128x128x128) ![0, 32, 0, 0] S2x32x128x128.size inb_S2x128x128x128_S2x32x128x128_0_32_0_0,
          k0_pay17 (bodyRun.sl.r_10 A c) (bodyRun.sl.r_11 A c) (bodyRun.sl.r_12 W f1)
            (View.readAt (Elt F) (Memref.whole cc0_scratch0).view
              (Rect.unit (s := S2x128x64x128) ![0, 32, 0, 0] S2x32x64x128.size inb_S2x128x64x128_S2x32x64x128_0_32_0_0).toLoadRect (A c))⟩,
        ⟨Rect.unit (s := S2x128x128x128) ![0, 0, 0, 0] S2x32x128x128.size inb_S2x128x128x128_S2x32x128x128_0_0_0_0, bodyRun.sl.r_13 A c W f1⟩]
      = outF (A c) W (stF A c) :=
    out_writes fo (A c) W (stF A c) _ _ _ _ e13 (by rw [e10, e11, e12]; rfl)
      (by rw [e10, e11, e12]; exact pay18_eq _ _ W (rows2 (A c))) (by rw [e11, e12, e14]; exact pay20_eq _ _ W (rows3 (A c)))
  ihave Ho := (Entails.of_eq (congrArg (fun g => (Memref.whole cc0_stg0_0).view.loc (c : Thread nD τ) ↦{fullShare} g) hout)) $$ Ho
  rw [wp_ret]
  imod (close A (K (barCell c)) (barCell c)) $$ [Hab] with Hb
  · isplitr; · iexact HIb
    iexact Hab
  imod (close A (K (sendCell0 c)) (sendCell0 c)) $$ [Has0] with Hds0
  · isplitr; · iexact HIs0
    iexact Has0
  imod (close A (K (sendCell1 c)) (sendCell1 c)) $$ [Has1] with Hds1
  · isplitr; · iexact HIs1
    iexact Has1
  imod (close A (K (sendCell2 c)) (sendCell2 c)) $$ [Has2] with Hds2
  · isplitr; · iexact HIs2
    iexact Has2
  imod (close A (K (recvCell0 c)) (recvCell0 c)) $$ [Har0] with Hdr0
  · isplitr; · iexact HIr0
    iexact Har0
  imod (close A (K (recvCell1 c)) (recvCell1 c)) $$ [Har1] with Hdr1
  · isplitr; · iexact HIr1
    iexact Har1
  imod (close A (K (recvCell2 c)) (recvCell2 c)) $$ [Har2] with Hdr2
  · isplitr; · iexact HIr2
    iexact Har2
  imodintro
  iapply Hk
  unfold bodyPost locals
  isplitl [Hb]; · iexact Hb
  isplitl [Hds0 Hds1 Hds2]
  · isplitl [Hds0]; · iexact Hds0
    isplitl [Hds1]; · iexact Hds1
    iexact Hds2
  isplitl [Hdr0 Hdr1 Hdr2]
  · isplitl [Hdr0]; · iexact Hdr0
    isplitl [Hdr1]; · iexact Hdr1
    iexact Hdr2
  isplitl [Hi0 Hi1 Hi2 Hi3 Hi4 Hi5 Hi6 Hi7 Hiw]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    iexact Hiw
  isplitl [Hx]; · iexact Hx
  isplitl [HW]; · iexact HW
  isplitl [Ho]; · iexact Ho
  isplitl [Hxv]; · iexists _; iexact Hxv
  isplitl [Hwv]; · iexists _; iexact Hwv
  isplitl [Has0_pay1 Has1_pay1 Has2_pay1]
  · ihave Hown := (own_join c (ownF (A c))) $$ [Has0_pay1 Has1_pay1 Has2_pay1]
    · isplitl [Has0_pay1]; · iexact Has0_pay1
      isplitl [Has1_pay1]; · iexact Has1_pay1
      iexact Has2_pay1
    iexists _; iexact Hown
  isplitl [Har0_pay1 Har1_pay1 Har2_pay1]
  · ihave Hst := (slots_join c fullShare (stF A c)) $$ [Har0_pay1 Har1_pay1 Har2_pay1]
    · isplitl [Har0_pay1 Har1_pay1]
      · isplitl [Har0_pay1]; · iexact Har0_pay1
        iexact Har1_pay1
      iexact Har2_pay1
    iexists _; iexact Hst
  iexists _; iexact HO

end Cert.Gn

end
-- ==== Proof.Region.lean ====
module

public import proofs.«01_k».proof.Proof.Body
public import proofs.«01_k».proof.Proof.Gen.KernelIdeal.Frame
public import Idealize.ShloMosaic.Lib.Pipeline.RegionTalk

/-!
# The kernel's region

The body run of `Body.lean` as a region of the program that talks across devices: what the program carries to it from
launch, what it opens on entry, and what the arrays hold when it is left.
-/

@[expose] public section

noncomputable section

namespace Cert.Gn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The buffers' contents -/

/-- At launch; -/
def V₀ (c : Dev nD) : Valuation τ sig (Elt F) := fun b => m (c, b)
/-- when the region is entered; -/
def V₁ (c : Dev nD) : Valuation τ sig (Elt F) := StableHlo.after hostOps0 (V₀ m c)
/-- the operands there; -/
def inX (c : Dev nD) : XT F := V₁ m c main_v1
def inW (c : Dev nD) : Vec F S64x128 .f32 := V₁ m c main_arg1
/-- the device's part of the result; -/
def outV (c : Dev nD) : Vec F S2x128x128x128 .bf16 := outF (inX m c) (inW m c) (stF (inX m) c)
/-- and when the region is left. -/
def V₂ (c : Dev nD) : Valuation τ sig (Elt F) := Function.update (V₁ m c) (Proc.devRef .tc main_v2) (outV m c)

theorem V₂_out (c : Dev nD) : V₂ m c (Proc.devRef .tc main_v2) = outV m c := Function.update_self ..
theorem V₂_of_ne (c : Dev nD) (b : DevRef τ sig) (h : b ≠ Proc.devRef .tc main_v2) : V₂ m c b = V₁ m c b := Function.update_of_ne h ..

/-! ## What is held -/

/-- The buffers of the program, and those of them the body addresses itself. -/
abbrev bufs : Finset (DevRef τ sig) := Pipeline.ucRefs τ sig
abbrev others : Finset (DevRef τ sig) := {Proc.devRef .tc main_arg0, Proc.devRef .tc main_arg1, Proc.devRef .tc main_v1}

theorem others_eq (c : Dev nD) (V : Valuation τ sig (Elt F)) : (StableHlo.held (c : Thread nD τ) others V : sProp 𝕄)
    = iprop(pt c main_arg0 (V main_arg0) ∗ pt c main_arg1 (V main_arg1) ∗ pt c main_v1 (V main_v1)) := by
  unfold StableHlo.held
  rw [bigSep_eq_bigSepL_of_eq [Proc.devRef .tc main_arg0, Proc.devRef .tc main_arg1, Proc.devRef .tc main_v1] (by decide) (by decide)]
  rfl

theorem bufs_eq (c : Dev nD) (V : Valuation τ sig (Elt F)) : (StableHlo.held (c : Thread nD τ) bufs V : sProp 𝕄)
    = iprop(StableHlo.held (c : Thread nD τ) (Pipeline.arrRefs (τ := τ) spec0) V ∗ StableHlo.held (c : Thread nD τ) others V) := by
  rw [StableHlo.held_sub_split (c.tc : Thread nD τ) (show Pipeline.arrRefs (τ := τ) spec0 ⊆ bufs by decide) V]
  rw [show bufs \ Pipeline.arrRefs (τ := τ) spec0 = others by decide]

/-- The kernel's own semaphores: those of the local copies, of the departures and of the arrivals. -/
abbrev osem (k : Fin 15) : SemLoc sig := .dma ⟨k.val + 1, by show k.val + 1 < 16; omega⟩

theorem ownSems_eq (c : Dev nD) : (Pipeline.ownSems0 osem c : sProp 𝕄)
    = iprop((semVal ((c : Thread nD τ), .dma inS0) 0 ∗ semVal ((c : Thread nD τ), .dma inS1) 0 ∗ semVal ((c : Thread nD τ), .dma inS2) 0 ∗ semVal ((c : Thread nD τ), .dma inS3) 0
      ∗ semVal ((c : Thread nD τ), .dma inS4) 0 ∗ semVal ((c : Thread nD τ), .dma inS5) 0 ∗ semVal ((c : Thread nD τ), .dma inS6) 0 ∗ semVal ((c : Thread nD τ), .dma inS7) 0
      ∗ semVal ((c : Thread nD τ), .dma wpS) 0 ∗ semVal (sendCell0 c) 0 ∗ semVal (sendCell1 c) 0 ∗ semVal (sendCell2 c) 0
      ∗ semVal (recvCell0 c) 0 ∗ semVal (recvCell1 c) 0 ∗ semVal (recvCell2 c) 0)) := by
  unfold Pipeline.ownSems0
  exact bigSep_univ_eq_bigSepL [(0 : Fin 15), 1, 2, 3, 4, 5, 6, 7, 8, 9, 10, 11, 12, 13, 14] (by decide) (by decide) _

/-! ## The protocol's state before the region and in it -/

/-- Carried from launch: the names, the position on the barrier cell, the rights to open the six scoped cells, what the peers' barrier
    cells have reached, and the tokens. -/
def ghost (K : GSem nD τ sig → ℕ) (c : Dev nD) : sProp 𝕄 :=
  iprop(invs (inX m) K c ∗ atPos ER (barCell c) 0 ∅ 0
    ∗ (openTok ER (sendCell0 c) ∗ openTok ER (sendCell1 c) ∗ openTok ER (sendCell2 c))
    ∗ (openTok ER (recvCell0 c) ∗ openTok ER (recvCell1 c) ∗ openTok ER (recvCell2 c))
    ∗ (reached ER (barCell (pe 0 c)) 0 ∗ reached ER (barCell (pe 1 c)) 0 ∗ reached ER (barCell (pe 2 c)) 0) ∗ toks c)

/-- With the cells opened. -/
def opened (K : GSem nD τ sig → ℕ) (c : Dev nD) : sProp 𝕄 := iprop(invs (inX m) K c ∗ toks c ∗ poss c ∗ rchs c)

/-- From launch; -/
def Tk (c : Dev nD) : sProp 𝕄 := iprop((∃ K, ghost m K c) ∗ creds c)
/-- into the region; -/
def Xk (c : Dev nD) : sProp 𝕄 := iprop((∃ K, opened m K c) ∗ creds c ∗ locals c ∗ levAts L lv)
/-- out of it. -/
def Yk (c : Dev nD) : sProp 𝕄 := semVal (barCell c) 0

/-- One scoped cell opens: its counter goes in, its owner's position and the fact that round 0 is reached come out. -/
theorem open_cell (A : Dev nD → XT F) (κ : ℕ) (g : GSem nD τ sig) :
    iprop(cellInv ER (gnRd A) κ g ∗ openTok ER g ∗ semVal g 0) ⊢ (|={Set.univ}=> iprop(atPos ER g 0 ∅ 0 ∗ reached ER g 0) : sProp 𝕄) :=
  Rounds.cell_open ER (gnRd A) (Set.mem_univ κ)

theorem hopen (c : Dev nD) : iprop(Tk m c ∗ Pipeline.ownSems0 osem c ∗ levAts L lv) ⊢ (|={Set.univ}=> Xk m c : sProp 𝕄) := by
  rw [ownSems_eq]
  unfold Tk Xk ghost opened invs poss rchs locals
  iintro ⟨⟨⟨%K, ⟨#HIb, #HIs0, #HIs1, #HIs2, #HIr0, #HIr1, #HIr2, #HP⟩, HatB, ⟨Ho0, Ho1, Ho2⟩, ⟨Hp0, Hp1, Hp2⟩, ⟨#Hr0, #Hr1, #Hr2⟩, Htok⟩, Hcr⟩,
    ⟨Hi0, Hi1, Hi2, Hi3, Hi4, Hi5, Hi6, Hi7, Hiw, Hs0, Hs1, Hs2, Hv0, Hv1, Hv2⟩, #Hlev⟩
  imod (open_cell (inX m) (K (sendCell0 c)) (sendCell0 c)) $$ [Ho0 Hs0] with ⟨Has0, #Hrs0⟩
  · isplitr; · iexact HIs0
    isplitl [Ho0] <;> iassumption
  imod (open_cell (inX m) (K (sendCell1 c)) (sendCell1 c)) $$ [Ho1 Hs1] with ⟨Has1, #Hrs1⟩
  · isplitr; · iexact HIs1
    isplitl [Ho1] <;> iassumption
  imod (open_cell (inX m) (K (sendCell2 c)) (sendCell2 c)) $$ [Ho2 Hs2] with ⟨Has2, #Hrs2⟩
  · isplitr; · iexact HIs2
    isplitl [Ho2] <;> iassumption
  imod (open_cell (inX m) (K (recvCell0 c)) (recvCell0 c)) $$ [Hp0 Hv0] with ⟨Har0, #Hrr0⟩
  · isplitr; · iexact HIr0
    isplitl [Hp0] <;> iassumption
  imod (open_cell (inX m) (K (recvCell1 c)) (recvCell1 c)) $$ [Hp1 Hv1] with ⟨Har1, #Hrr1⟩
  · isplitr; · iexact HIr1
    isplitl [Hp1] <;> iassumption
  imod (open_cell (inX m) (K (recvCell2 c)) (recvCell2 c)) $$ [Hp2 Hv2] with ⟨Har2, #Hrr2⟩
  · isplitr; · iexact HIr2
    isplitl [Hp2] <;> iassumption
  imodintro
  isplitl [Htok HatB Has0 Has1 Has2 Har0 Har1 Har2]
  · iexists K
    isplitr
    · isplitr; · iexact HIb
      isplitr; · iexact HIs0
      isplitr; · iexact HIs1
      isplitr; · iexact HIs2
      isplitr; · iexact HIr0
      isplitr; · iexact HIr1
      isplitr; · iexact HIr2
      iexact HP
    isplitl [Htok]; · iexact Htok
    isplitl [HatB Has0 Has1 Has2 Har0 Har1 Har2]
    · isplitl [HatB]; · iexact HatB
      isplitl [Has0 Has1 Has2]
      · isplitl [Has0]; · iexact Has0
        isplitl [Has1] <;> iassumption
      isplitl [Har0]; · iexact Har0
      isplitl [Har1] <;> iassumption
    isplitr
    · isplitr; · iexact Hr0
      isplitr; · iexact Hr1
      iexact Hr2
    isplitr
    · isplitr; · iexact Hrs0
      isplitr; · iexact Hrs1
      iexact Hrs2
    isplitr; · iexact Hrr0
    isplitr; · iexact Hrr1
    iexact Hrr2
  isplitl [Hcr]; · iexact Hcr
  isplitl [Hi0 Hi1 Hi2 Hi3 Hi4 Hi5 Hi6 Hi7 Hiw]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    iexact Hiw
  iexact Hlev

/-! ## The region's proof data -/

/-- The scratch buffers, at some contents. -/
def scr (c : Dev nD) : sProp 𝕄 :=
  iprop((∃ f, pt c cc0_scratch0 f) ∗ (∃ f, pt c cc0_scratch1 f) ∗ (∃ f, pt c cc0_scratch2 f) ∗ (∃ f, pt c cc0_scratch3 f))

theorem scr_eq (c : Dev nD) : (Pipeline.scopedRest (Ix := Unit) (Name := ℕ) (U := UU) (Lvl := ℕ) (Val := Elt F) spec0 c : sProp 𝕄) = scr c :=
  scopedRest0_eq c

/-- The invariant before the body and after it. -/
def before (c : Dev nD) : sProp 𝕄 := iprop(Xk m c ∗ StableHlo.held (c : Thread nD τ) others (V₁ m c) ∗ scr c ∗ ∃ r, prngReg c r)
def after (c : Dev nD) : sProp 𝕄 :=
  iprop(Yk c ∗ Pipeline.ownSems0 osem c ∗ StableHlo.held (c : Thread nD τ) others (V₁ m c) ∗ scr c ∗ ∃ r, prngReg c r)

def dat (c : Dev nD) : Dat τ (Elt F) Unit ℕ UU ℕ cfg0 c where
  A w := match w with | 0 => V₁ m c (Proc.devRef .tc main_v2)
  after w _ := match w with | 0 => outV m c
  Φ t := if t.val = 0 then before m c else after m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat (F := F) m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat (F := F) m c).owed t = O) (Wt : Waits sig Unit) :
    (owes (c : Thread nD τ) O Wt : sProp 𝕄) ⊢ ((dat m c).owesAt () t : sProp 𝕄) := by
  unfold Dat.owesAt Pipeline.owesWithin Dat.bound; rw [h0, show (dat (F := F) m c).recorded t = Set.univ from rfl]
  iintro HO; iexists Wt; isplitr; · ipureintro; exact fun _ _ => Or.inl trivial
  iexact HO
theorem owesAt_elim (c : Dev nD) (t : Fin (cfg0.N + 1)) (O : CellTallies nD τ sig Unit) (h0 : (dat (F := F) m c).owed t = O) :
    ((dat m c).owesAt () t : sProp 𝕄) ⊢ iprop(∃ Wt, owes (c : Thread nD τ) O Wt) := by
  unfold Dat.owesAt Pipeline.owesWithin; rw [h0]
  iintro ⟨%Wt, -, HO⟩; iexists Wt; iexact HO

theorem staged (c : Dev nD) : (pt c cc0_stg0_0 (outF (inX m c) (inW m c) (stF (inX m) c)) : sProp 𝕄)
    = owns (c : Thread nD τ) (Memref.whole cc0_stg0_0) fullShare (outV m c) :=
  (owns_whole (c : Thread nD τ) cc0_stg0_0 fullShare (outV m c)).symm

attribute [local irreducible] outV

/-- The region's body meets its obligation. -/
theorem bodyOk (c : Dev nD) : BodyObligation (dat (F := F) m c) defs₀ 𝒱₀ () Set.univ := fun t => by
  obtain rfl := fin_N0 t
  rw [bigSep_W0, bigSep_W0]
  rw [show (dat m c).Φ t0_0.castSucc = before m c from rfl, show (dat m c).Φ t0_0.succ = after m c from rfl]
  dsimp only
  unfold before after Xk opened Yk scr
  rw [others_eq, ownSems_eq]
  iintro ⟨⟨⟨⟨%K, Hinv, Htok, Hpos, Hrch⟩, Hcr, Hloc, Hlev⟩, ⟨Hx0, Hx1, Hx2⟩, ⟨Hs0, Hs1, Hs2, ⟨%f3, Hs3⟩⟩, Hreg⟩, HO, ⟨%d, Hst⟩⟩
  ihave HO' := (owesAt_elim m c _ (O₀ c) (owed_first m c)) $$ HO
  icases HO' with ⟨%Wt, HO⟩
  ihave Hst := (Entails.of_eq (owns_whole (c : Thread nD τ) cc0_stg0_0 fullShare ((dat m c).before 0 t0_0 d))) $$ Hst
  ihave Hsl := (slots_part c fullShare f3) $$ Hs3
  icases Hsl with ⟨⟨Hsl0, Hsl1⟩, Hsl2⟩
  iapply (bodyRun (inX m) K c (inW m c) Wt _)
  isplitl [Hinv Htok Hpos Hrch Hcr Hloc Hlev Hx1 Hx2 Hs0 Hs1 Hs2 HO Hst Hsl0 Hsl1 Hsl2]
  · unfold bodyPre
    isplitl [Hinv]; · iexact Hinv
    isplitl [Htok]; · iexact Htok
    isplitl [Hpos]; · iexact Hpos
    isplitl [Hrch]; · iexact Hrch
    isplitl [Hcr]; · iexact Hcr
    isplitl [Hloc]; · iexact Hloc
    isplitl [Hlev]; · iexact Hlev
    isplitl [Hx2]; · iexact Hx2
    isplitl [Hx1]; · iexact Hx1
    isplitl [Hst]; · iexists _; iexact Hst
    isplitl [Hs0]; · iexact Hs0
    isplitl [Hs1]; · iexact Hs1
    isplitl [Hs2]; · iexact Hs2
    isplitl [Hsl2]; · iexists f3; iexact Hsl2
    isplitl [Hsl1]; · iexists f3; iexact Hsl1
    isplitl [Hsl0]; · iexists f3; iexact Hsl0
    iexact HO
  unfold bodyPost locals
  iintro ⟨Hb, ⟨Hd0, Hd1, Hd2⟩, ⟨Hr0, Hr1, Hr2⟩, ⟨Hi0, Hi1, Hi2, Hi3, Hi4, Hi5, Hi6, Hi7, Hiw⟩, Hx2, Hx1, Hst, Hs0, Hs1, Hs2, Hs3, ⟨%Wt', HO⟩⟩
  isplitr [HO Hst]
  · isplitl [Hb]; · iexact Hb
    isplitl [Hd0 Hd1 Hd2 Hr0 Hr1 Hr2 Hi0 Hi1 Hi2 Hi3 Hi4 Hi5 Hi6 Hi7 Hiw]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hiw]; · iexact Hiw
      isplitl [Hd0]; · iexact Hd0
      isplitl [Hd1]; · iexact Hd1
      isplitl [Hd2]; · iexact Hd2
      isplitl [Hr0]; · iexact Hr0
      isplitl [Hr1]; · iexact Hr1
      iexact Hr2
    isplitl [Hx0 Hx1 Hx2]
    · isplitl [Hx0]; · iexact Hx0
      isplitl [Hx1]; · iexact Hx1
      iexact Hx2
    isplitl [Hs0 Hs1 Hs2 Hs3]
    · isplitl [Hs0]; · iexact Hs0
      isplitl [Hs1]; · iexact Hs1
      isplitl [Hs2]; · iexact Hs2
      iexact Hs3
    iexact Hreg
  isplitl [HO]; · iapply (owesAt_intro m c t0_0.succ 0 (owed_last m c) Wt'); iexact HO
  ihave Hst := (Entails.of_eq (staged m c)) $$ Hst
  iexact Hst

/-! ## The region -/

theorem kitP : Pipeline.PLaunchFacts (nD := nD) (τ := τ) (pcfgs (F := F)) 0 := launch0.toP

theorem owed_pos {c : Dev nD} {g : GSem nD τ sig} {u : Unit} (h : 0 < O₀ c g u) : (∃ k, g = recvCell k (pe k c)) ∨ ∃ k, g = barCell (pe k c) := by
  by_contra hne
  push Not at hne
  refine absurd h ?_
  have hr : owedRecv c g u = 0 := Nat.eq_zero_of_not_pos fun h => let ⟨k, e⟩ := owedRecv_cell c g u h; hne.1 k e
  have hb : ∀ k, tallyAt (barCell (pe k c)) () 1 g u = 0 := fun k => by rw [tallyAt_apply, if_neg (fun e => hne.2 k e.1)]
  show ¬ 0 < owedRecv c g u + tallyAt (barCell (pe 0 c)) () 1 g u + tallyAt (barCell (pe 1 c)) () 1 g u + tallyAt (barCell (pe 2 c)) () 1 g u
  rw [hr, hb 0, hb 1, hb 2]; decide

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = if t.val = 0 then O₀ c else 0 from rfl] at h
  split at h
  · rcases owed_pos h with ⟨k, rfl⟩ | ⟨k, rfl⟩
    · exact ⟨by rw [L_tc]; exact Finset.mem_singleton_self _, by rw [lv_recv]; decide⟩
    · exact ⟨by rw [L_tc]; exact Finset.mem_singleton_self _, Nat.one_pos⟩
  · exact absurd h (Nat.lt_irrefl 0)

theorem hin (c : Dev nD) : iprop(Pipeline.scopedRest (Pipeline.pin (pcfgs (F := F)) adm 0).spec c ∗ (∃ r, prngReg c r) ∗ StableHlo.held (c.tc : Thread nD τ) others (V₁ m c) ∗ Xk m c)
    ⊢ (pdats m 0 c).Φ 0 := by
  rw [show (pdats m 0 c).Φ 0 = before m c from rfl, show (Pipeline.scopedRest (Pipeline.pin (pcfgs (F := F)) adm 0).spec c : sProp 𝕄) = scr c from scr_eq c]
  unfold before
  iintro ⟨Hs, Hp, Hh, HX⟩
  isplitl [HX]; · iexact HX
  isplitl [Hh]; · iexact Hh
  isplitl [Hs] <;> iassumption

theorem held_others (c : Dev nD) : (StableHlo.held (c : Thread nD τ) others (V₂ m c) : sProp 𝕄) = StableHlo.held (c : Thread nD τ) others (V₁ m c) :=
  StableHlo.held_congr _ fun b hb => V₂_of_ne m c b (by revert b; decide)

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) others (V₂ m c) ∗ Pipeline.ownSems0 osem c ∗ Yk c) := by
  rw [show (pdats m 0 c).Φ (Fin.last _) = after m c from rfl, show (Pipeline.scopedRest (Pipeline.pin (pcfgs (F := F)) adm 0).spec c : sProp 𝕄) = scr c from scr_eq c,
    held_others]
  unfold after
  iintro ⟨HY, Ho, Hh, Hs, Hp⟩
  isplitl [Hs]; · iexact Hs
  isplitl [Hp]; · iexact Hp
  isplitl [Hh]; · iexact Hh
  isplitl [Ho] <;> iassumption

/-- The one window is the whole array, written back once: the array ends holding what the body left in the buffer. -/
theorem arrAt_last (c : Dev nD) : (dat m c).arrAt 0 cfg0.N = outV m c := by
  have hz : (fun a => (win0_0.index t0_0) a * main_v2.ty.shape.size a) = fun _ => 0 := funext fun a => by fin_cases a <;> decide
  have hr := fun f => Memref.read_access_unit_zero (Elt F) main_v2 hz (fun a => by fin_cases a <;> decide) f
  have hb : (win0_0.blk t0_0).view.read (Elt F) ((dat m c).arrAt 0 cfg0.N) = outV m c := by
    rw [show cfg0.N = t0_0.val + 1 from N_0, (dat m c).arrAt_succ 0 t0_0, if_pos (flush0_0 t0_0)]
    exact View.read_write_univ _ _
  rw [hr] at hb
  exact hb

set_option backward.isDefEq.respectTransparency.types false in
/-- The region as the program runs it. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    others others (Finset.Subset.refl _) kitP rfl (fun c => (bodyOk m c).loose)
    (fun _ => 0) O₀ (fun c => (owed_zero m c).trans (zero_add _).symm) (owed_last m) (fun _ => rfl) (fun _ w => by fin_cases w; rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _, fun c w s => by fin_cases w; fin_cases s; exact Nat.le_refl 0, fun c t g i h => cut m c t g i h⟩
    (fun _ => iprop(emp))
    (fun c w => by fin_cases w; rfl) (fun c w => by fin_cases w; exact (arrAt_last m c).trans (V₂_out m c).symm)

end Cert.Gn

end
-- ==== Proof.Launch.lean ====
module

public import proofs.«01_k».proof.Proof.Region

/-!
# The launch

From memory at launch to the region: every cell's invariant is allocated, the scoped ones without their counters; the
positions, the rights to open, the tokens and the credit are dealt to the devices that use them.
-/

@[expose] public section

noncomputable section

namespace Cert.Gn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The six cells that are opened in the region, by their semaphores. -/
abbrev csem (k : Fin 6) : SemLoc sig := .dma ⟨k.val + 10, by show k.val + 10 < 16; omega⟩
theorem dma_ne_reg (s : DmaSem sig) (t : Sem sig) : SemLoc.dma s ≠ SemLoc.reg t := by intro h; cases h
theorem csem_inj : Function.Injective csem := by decide

def barEmb : Dev nD ↪ GSem nD τ sig := ⟨fun c => barCell c, fun _ _ h => congrArg (fun g : GSem nD τ sig => g.1.1) h⟩
def scEmb : Dev nD × Fin 6 ↪ GSem nD τ sig :=
  ⟨fun ck => ((ck.1 : Thread nD τ), csem ck.2), fun _ _ h =>
    Prod.ext (congrArg (fun g : GSem nD τ sig => g.1.1) h) (csem_inj (congrArg Prod.snd h))⟩

abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact dma_ne_reg _ _ (congrArg (fun g : GSem nD τ sig => g.2) h)

/-- The nine duties of a device's cells: their semaphores and their numbers. -/
abbrev tsem : Fin 9 → SemLoc sig
  | 0 => .reg barS | 1 => .reg barS | 2 => .reg barS
  | 3 => .dma recvS0 | 4 => .dma recvS1 | 5 => .dma recvS2 | 6 => .dma sendS0 | 7 => .dma sendS1 | 8 => .dma sendS2
abbrev tduty : Fin 9 → Fin 3 | 0 => 2 | 1 => 1 | _ => 0
theorem tk_inj : Function.Injective (fun k : Fin 9 => (tsem k, tduty k)) := by decide

/-- Every duty's token. -/
def allToks : Finset (GSem nD τ sig × ℕ × Fin 3) :=
  Finset.univ.map ⟨fun ck : Dev nD × Fin 9 => (((ck.1 : Thread nD τ), tsem ck.2), 0, tduty ck.2), fun _ _ h =>
    Prod.ext (congrArg (fun t : GSem nD τ sig × ℕ × Fin 3 => t.1.1.1) h)
      (tk_inj (Prod.ext (congrArg (fun t : GSem nD τ sig × ℕ × Fin 3 => t.1.2) h) (congrArg (fun t : GSem nD τ sig × ℕ × Fin 3 => t.2.2) h)))⟩

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 6) : ((c : Thread nD τ), csem k) ∈ (barCells ∪ scCells : Finset (GSem nD τ sig)) :=
  Finset.mem_union_right _ (Finset.mem_map_of_mem scEmb (Finset.mem_univ (c, k)))

/-- The launch element: the staging pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells scCells allToks, 1)

/-- The protocol's part waits on device 0 until it is dealt. -/
def G (c : Dev nD) : sProp 𝕄 := if c = 0 then BI.own (ER (launchOf barCells scCells allToks)) else iprop(emp)
theorem G_sep : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What each device gets -/

/-- What every device may consult. -/
def records (κ : GSem nD τ sig → ℕ) : sProp 𝕄 :=
  iprop((bigSep (barCells ∪ scCells) fun g => cellInv ER (gnRd (inX m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ scCells : Finset (GSem nD τ sig))) :
    (bigSep (barCells ∪ scCells) fun g => (cellInv ER (gnRd (inX m)) (κ g) g : sProp 𝕄)) ⊢ cellInv ER (gnRd (inX m)) (κ g) g :=
  bigSep_elim hg

theorem reached_at (c : Dev nD) : (bigSep barCells fun g => (reached ER g 0 : sProp 𝕄)) ⊢ reached ER (barCell c) 0 :=
  bigSep_elim (Finset.mem_map_of_mem barEmb (Finset.mem_univ c))

/-- The rights to open a device's six scoped cells. -/
def opens (c : Dev nD) : sProp 𝕄 :=
  iprop((openTok ER (sendCell0 c) ∗ openTok ER (sendCell1 c) ∗ openTok ER (sendCell2 c))
    ∗ (openTok ER (recvCell0 c) ∗ openTok ER (recvCell1 c) ∗ openTok ER (recvCell2 c)))

/-- What one device alone holds. -/
def linear (c : Dev nD) : sProp 𝕄 := iprop(atPos ER (barCell c) 0 ∅ 0 ∗ opens c ∗ toks c)

theorem ghost_intro (κ : GSem nD τ sig → ℕ) (c : Dev nD) : iprop(records m κ ∗ linear c) ⊢ iprop(∃ K, ghost m K c) := by
  unfold records linear ghost invs opens
  iintro ⟨⟨#HI, #HR⟩, HaB, ⟨HoS, HoV⟩, Ht⟩
  iexists κ
  isplitr
  · isplitr; · iapply (inv_at m κ (bar_mem c)); iexact HI
    isplitr; · iapply (inv_at m κ (sc_mem c 0)); iexact HI
    isplitr; · iapply (inv_at m κ (sc_mem c 1)); iexact HI
    isplitr; · iapply (inv_at m κ (sc_mem c 2)); iexact HI
    isplitr; · iapply (inv_at m κ (sc_mem c 3)); iexact HI
    isplitr; · iapply (inv_at m κ (sc_mem c 4)); iexact HI
    isplitr; · iapply (inv_at m κ (sc_mem c 5)); iexact HI
    isplitr; · iapply (inv_at m κ (bar_mem (pe 0 c))); iexact HI
    isplitr; · iapply (inv_at m κ (bar_mem (pe 1 c))); iexact HI
    isplitr; · iapply (inv_at m κ (bar_mem (pe 2 c))); iexact HI
    isplitr; · iapply (inv_at m κ (sc_mem (pe 0 c) 3)); iexact HI
    isplitr; · iapply (inv_at m κ (sc_mem (pe 1 c) 4)); iexact HI
    iapply (inv_at m κ (sc_mem (pe 2 c) 5)); iexact HI
  isplitl [HaB]; · iexact HaB
  isplitl [HoS]; · iexact HoS
  isplitl [HoV]; · iexact HoV
  isplitr
  · isplitr; · iapply (reached_at (F := F) (pe 0 c)); iexact HR
    isplitr; · iapply (reached_at (F := F) (pe 1 c)); iexact HR
    iapply (reached_at (F := F) (pe 2 c)); iexact HR
  iexact Ht

/-- The devices' step by `k`, as a permutation. -/
def step (k : Fin 3) : Dev nD ≃ Dev nD where
  toFun := pe k
  invFun := pe k.rev
  left_inv c := by have := pe_rev k.rev c; rwa [Fin.rev_rev] at this
  right_inv c := pe_rev k c

/-- The tokens of a device's own cells. -/
def ownToks (c : Dev nD) : sProp 𝕄 :=
  iprop(dutyTok ER (barCell c) 0 2 ∗ dutyTok ER (barCell c) 0 1 ∗ dutyTok ER (barCell c) 0 0
    ∗ dutyTok ER (recvCell0 c) 0 0 ∗ dutyTok ER (recvCell1 c) 0 0 ∗ dutyTok ER (recvCell2 c) 0 0
    ∗ dutyTok ER (sendCell0 c) 0 0 ∗ dutyTok ER (sendCell1 c) 0 0 ∗ dutyTok ER (sendCell2 c) 0 0)

theorem toks_eq : bigSep allToks (fun x => (dutyTok ER x.1 x.2.1 x.2.2 : sProp 𝕄)) = bigSep Finset.univ fun c : Dev nD => ownToks c := by
  unfold allToks; rw [bigSep_map, bigSep_univ_prod]
  exact bigSep_congr fun c _ => bigSep_univ_eq_bigSepL [(0 : Fin 9), 1, 2, 3, 4, 5, 6, 7, 8] (by decide) (by decide) _

/-- Each token handed to the device that pays with it. -/
theorem toks_around : (bigSep Finset.univ fun c : Dev nD => (ownToks c : sProp 𝕄)) ⊢ bigSep Finset.univ fun c : Dev nD => toks c := by
  unfold ownToks toks
  simp only [bigSep_sep']
  rw [bigSep_univ_equiv (step 0) (fun c : Dev nD => (dutyTok ER (barCell c) 0 2 : sProp 𝕄)),
    bigSep_univ_equiv (step 1) (fun c : Dev nD => (dutyTok ER (barCell c) 0 1 : sProp 𝕄)),
    bigSep_univ_equiv (step 2) (fun c : Dev nD => (dutyTok ER (barCell c) 0 0 : sProp 𝕄)),
    bigSep_univ_equiv (step 0) (fun c : Dev nD => (dutyTok ER (recvCell0 c) 0 0 : sProp 𝕄)),
    bigSep_univ_equiv (step 1) (fun c : Dev nD => (dutyTok ER (recvCell1 c) 0 0 : sProp 𝕄)),
    bigSep_univ_equiv (step 2) (fun c : Dev nD => (dutyTok ER (recvCell2 c) 0 0 : sProp 𝕄))]
  iintro ⟨Hb0, Hb1, Hb2, Hr0, Hr1, Hr2, Hs⟩
  isplitl [Hb0]; · iexact Hb0
  isplitl [Hb1]; · iexact Hb1
  isplitl [Hb2]; · iexact Hb2
  isplitl [Hr0 Hr1 Hr2]
  · isplitl [Hr0]; · iexact Hr0
    isplitl [Hr1]; · iexact Hr1
    iexact Hr2
  iexact Hs

/-! ## The credit at launch -/

/-- One device in four is a step away, so one summand counts. -/
theorem sum_step (k : Fin 3) (c : Dev nD) (n : ℕ) : (∑ d : Dev nD, if pe k d = c then n else 0) = n := by
  rw [show (∑ d : Dev nD, if pe k d = c then n else 0) = ∑ d, (fun e : Dev nD => if e = c then n else 0) (step k d) from rfl, (step k).sum_comp (fun e : Dev nD => if e = c then n else 0), Finset.sum_ite_eq' Finset.univ c fun _ => n, if_pos (Finset.mem_univ _)]

theorem tally_bar (d c : Dev nD) (k : Fin 3) (n : ℕ) : (tallyAt (barCell (pe k d)) () n : CellTallies nD τ sig Unit) (barCell c) () = if pe k d = c then n else 0 := by
  rw [tallyAt_apply]
  by_cases h : pe k d = c
  · rw [if_pos ⟨congrArg _ h.symm, rfl⟩, if_pos h]
  · rw [if_neg fun e => h (congrArg (fun g : GSem nD τ sig => g.1.1) e.1).symm, if_neg h]

theorem tally_recv (d c : Dev nD) (k j : Fin 3) (n : ℕ) :
    (tallyAt (recvCell k (pe k d)) () n : CellTallies nD τ sig Unit) (recvCell j c) () = if k = j ∧ pe k d = c then n else 0 := by
  rw [tallyAt_apply]
  by_cases h : k = j ∧ pe k d = c
  · obtain ⟨rfl, rfl⟩ := h; rw [if_pos ⟨rfl, rfl⟩, if_pos ⟨rfl, rfl⟩]
  · rw [if_neg fun e => h ⟨?_, (congrArg (fun g : GSem nD τ sig => g.1.1) e.1).symm⟩, if_neg h]
    have e' := congrArg Prod.snd e.1
    have : (recvS j).val = (recvS k).val := congrArg Fin.val (SemLoc.dma.inj e')
    rw [recvS_val, recvS_val] at this
    exact Fin.ext (by omega)

theorem tally_off (d c : Dev nD) (k j : Fin 3) (n : ℕ) : (tallyAt (recvCell k d) () n : CellTallies nD τ sig Unit) (barCell c) () = 0
    ∧ (tallyAt (barCell d) () n : CellTallies nD τ sig Unit) (recvCell j c) () = 0 := by
  rw [tallyAt_apply, tallyAt_apply]
  exact ⟨if_neg fun e => dma_ne_reg _ _ (congrArg (fun g : GSem nD τ sig => g.2) e.1).symm, if_neg fun e => dma_ne_reg _ _ (congrArg (fun g : GSem nD τ sig => g.2) e.1)⟩

theorem owed_bar (d c : Dev nD) : O₀ d (barCell c) () = (if pe 0 d = c then 1 else 0) + (if pe 1 d = c then 1 else 0) + (if pe 2 d = c then 1 else 0) := by
  rw [← tally_bar d c 0, ← tally_bar d c 1, ← tally_bar d c 2]
  show (tallyAt (recvCell 0 (pe 0 d)) () N (barCell c) () + tallyAt (recvCell 1 (pe 1 d)) () N (barCell c) () + tallyAt (recvCell 2 (pe 2 d)) () N (barCell c) ())
    + tallyAt (barCell (pe 0 d)) () 1 (barCell c) () + tallyAt (barCell (pe 1 d)) () 1 (barCell c) () + tallyAt (barCell (pe 2 d)) () 1 (barCell c) () = _
  rw [(tally_off (pe 0 d) c 0 0 N).1, (tally_off (pe 1 d) c 1 0 N).1, (tally_off (pe 2 d) c 2 0 N).1]
  simp only [Nat.zero_add]

theorem owed_recv (d c : Dev nD) (j : Fin 3) : O₀ d (recvCell j c) () = if pe j d = c then N else 0 := by
  show (tallyAt (recvCell 0 (pe 0 d)) () N (recvCell j c) () + tallyAt (recvCell 1 (pe 1 d)) () N (recvCell j c) () + tallyAt (recvCell 2 (pe 2 d)) () N (recvCell j c) ())
    + tallyAt (barCell (pe 0 d)) () 1 (recvCell j c) () + tallyAt (barCell (pe 1 d)) () 1 (recvCell j c) () + tallyAt (barCell (pe 2 d)) () 1 (recvCell j c) () = _
  rw [tally_recv, tally_recv, tally_recv, (tally_off (pe 0 d) c 0 j 1).2, (tally_off (pe 1 d) c 0 j 1).2, (tally_off (pe 2 d) c 0 j 1).2]
  fin_cases j <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_step, sum_step, sum_step]

theorem launch_recv (c : Dev nD) (j : Fin 3) :
    tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owed_recv d c j, sum_step]

theorem creds_intro (c : Dev nD) : (Pipeline.launchCred O₀ c : sProp 𝕄) ⊢ creds c := by
  unfold Pipeline.launchCred creds
  refine (bigSep_subset (Finset.subset_univ {SemLoc.reg barS, SemLoc.dma recvS0, SemLoc.dma recvS1, SemLoc.dma recvS2})).trans ?_
  rw [bigSep_eq_bigSepL_of_eq [SemLoc.reg barS, SemLoc.dma recvS0, SemLoc.dma recvS1, SemLoc.dma recvS2] (by decide) (by decide)]
  rw [← launch_bar, ← launch_recv c 0, ← launch_recv c 1, ← launch_recv c 2]
  exact Entails.refl _

end Cert.Gn

end
-- ==== Proof.Run.lean ====
module

public import proofs.«01_k».proof.Proof.Launch

/-!
# The run

From any memory with its semaphores at zero the program ends on every device, with its arguments unchanged, the result
array holding `outV`, and every semaphore at zero again.
-/

@[expose] public section

noncomputable section

namespace Cert.Gn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The two segments of the program -/

/-- Beside the buffers up to the region: what comes from launch. -/
def R (c : Dev nD) : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide

/-- The host's operations before the region. -/
def host : Pipeline.HostSeg (Ix := Unit) (Name := ℕ) (U := UU) (Lvl := ℕ) (pcfgs (F := F)) defs₀ 𝒱₀ L lv :=
  Pipeline.HostSeg.ofOps _ _ _ _ _ bufs hostOps0 ops_sub (List.forall_iff_forall_mem.mp hostOps0_fresh) (V₀ m) (R m)

def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ Tk m c ∗ ∃ Wd, owes (c : Thread nD τ) (0 + O₀ c) Wd)
  rw [bufs_eq, zero_add]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [bufs_eq]
  unfold Yk
  iintro ⟨Ha, -, ⟨Hh, -⟩, Hb, HO⟩
  isplitr [HO]
  · isplitl [Ha Hh]
    · isplitl [Ha] <;> iassumption
    iexact Hb
  iexact HO

/-! ## From launch to the first segment -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device holds at launch beside the protocol's ghost state. -/
def bundle (c : Dev nD) : sProp 𝕄 :=
  iprop(StableHlo.held (c : Thread nD τ) bufs (V₀ m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (V₀ m c) from Pipeline.unscopedBufs_held c (V₀ m c),
    sems_eq]
  unfold bundle
  iintro ⟨Hh, Hus, HO, Hcr, Hp, HG⟩
  isplitl [Hh Hcr HO Hp]
  · isplitl [Hh]; · iexact Hh
    isplitl [Hcr]; · iapply (creds_intro (F := F) c); iexact Hcr
    isplitl [HO]; · iexact HO
    iexists (ρ c); iexact Hp
  isplitl [Hus] <;> iassumption

theorem opens_eq : bigSep scCells (fun g => (openTok ER g : sProp 𝕄)) ⊢ bigSep Finset.univ (fun c : Dev nD => opens c) := by
  rw [bigSep_map, bigSep_univ_prod]
  refine bigSep_mono fun c _ => ?_
  rw [bigSep_univ_eq_bigSepL [(0 : Fin 6), 1, 2, 3, 4, 5] (by decide) (by decide)]
  unfold opens
  show iprop(openTok ER (sendCell0 c) ∗ openTok ER (sendCell1 c) ∗ openTok ER (sendCell2 c)
    ∗ openTok ER (recvCell0 c) ∗ openTok ER (recvCell1 c) ∗ openTok ER (recvCell2 c)) ⊢ _
  iintro ⟨H0, H1, H2, Hr⟩
  isplitl [H0 H1 H2]
  · isplitl [H0]; · iexact H0
    isplitl [H1] <;> iassumption
  iexact Hr

/-- Everything allocated and dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hs : bigSep Finset.univ (fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) := bigSep_mono fun c _ => sorted (F := F) m ρ c
  iintro ⟨H, -⟩
  ihave H' := hs $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells allToks)) from Entails.of_eq G_sep) $$ HG
  imod (Rounds.fund_launch ER (gnRd (inX m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply (opens_eq (F := F)) $$ Hopen
    iapply (toks_around (F := F))
    iapply (Entails.of_eq (toks_eq (F := F))) $$ Htok
  · iexact HB

/-! ## The run -/

theorem V₂_arg0 (c : Dev nD) : V₂ m c main_arg0 = m ((c : Thread nD τ).loc main_arg0) :=
  (V₂_of_ne m c _ (by decide)).trans (V_main_arg0 m c)
theorem V₂_arg1 (c : Dev nD) : V₂ m c main_arg1 = m ((c : Thread nD τ).loc main_arg1) :=
  (V₂_of_ne m c _ (by decide)).trans (V_main_arg1 m c)

theorem unscoped_eq : ∀ sm : SemLoc sig, sm.isScoped .tc = false → sm = .reg barS := by decide

theorem arr_eq (c : Dev nD) (V : Valuation τ sig (Elt F)) :
    (StableHlo.held (c : Thread nD τ) (Pipeline.arrRefs (τ := τ) spec0) V : sProp 𝕄) = pt c main_v2 (V main_v2) := by
  unfold StableHlo.held
  rw [show Pipeline.arrRefs (τ := τ) spec0 = {Proc.devRef .tc main_v2} from by decide, BI.bigSep_singleton]

set_option backward.isDefEq.respectTransparency.types false in
/-- Every run from memory `m` with every semaphore at zero ends, in a state where each device's arguments are as launched, its
    result array holds `outV` and every semaphore is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outV m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      ihave HY := (own_pair_emb embR _ _) $$ HX
      icases HY with ⟨HX, -⟩
      imodintro
      isplitl [HP]; · iexact HP
      rw [G_sep]; iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v2).view.loc (c : Thread nD τ)) = V₂ m c main_v2)
      ∧ s.sem (barCell c) = 0)
    (hfin := fun c s' => by
      dsimp only [Tₙ]; rw [bufs_eq, others_eq, arr_eq]
      iintro ⟨⟨⟨Hv, H0, H1, -⟩, Hb0⟩, HSI⟩
      icombine HSI Hv gives %hv
      icombine HSI H0 gives %h0
      icombine HSI H1 gives %h1
      icombine HSI Hb0 gives %hb
      imodintro
      isplitr
      · ipureintro
        exact ⟨⟨Buf.eq_of_forall_mem_univ h0, Buf.eq_of_forall_mem_univ h1, Buf.eq_of_forall_mem_univ hv⟩, by simpa using hb⟩
      iexact HSI)
    (hQ := fun s h hs => ⟨fun c => by
        obtain ⟨⟨h0, h1, hv⟩, -⟩ := h c
        rw [V₂_arg0] at h0; rw [V₂_arg1] at h1
        exact ⟨h0, h1, hv.trans (V₂_out m c)⟩,
      sem_eq_zero hs fun c sm hsm => by
        obtain rfl := unscoped_eq sm hsm
        exact (h c).2⟩)

end Cert.Gn

end
-- ==== Proof.Frames.lean ====
module

public import proofs.«01_k».proof.Defs
public import proofs.«01_k».proof.Proof.Run
public import proofs.«01_k».proof.Proof.Gen.Kernel.Frame
public import proofs.«01_k».proof.Proof.Gen.ReferenceIdeal.Run

/-!
# The frames

Each program ends, with its arguments unchanged and every semaphore at zero. The kernel and its idealization have the
same text, so one run, over any floats, gives both.
-/

@[expose] public section

noncomputable section

namespace Cert.Gn

open Idealize.ShloMosaic Idealize.SL.Sem

variable {F : FTy → Type} [FloatOps F]

theorem frame_any (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main m ρ)

theorem frame_ideal : Cert.quiescent_KernelIdeal (hKernelIdeal := Cert.KernelIdeal.Gen.facts) := fun m ρ _ => frame_any (F := Ideal) m ρ

section Same
variable [f : Cert.Kernel.Facts] [g : Cert.KernelIdeal.Facts]

/-- The two programs run the same body, -/
theorem bodies_eq : Cert.Kernel.defs₀ (F := Bits) = Cert.KernelIdeal.defs₀ (F := Bits) := by
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl
  | ⟨_ + 1, h⟩, _ => exact absurd h (Nat.not_lt.2 (Nat.le_add_left _ _))

/-- under the same labels. -/
theorem defs_eq : Cert.Kernel.defs (F := Bits) = Cert.KernelIdeal.defs (F := Bits) := congrArg (Pipeline.defs (Cert.Kernel.pcfgs (F := Bits))) bodies_eq

end Same

theorem frame_kernel : Cert.quiescent_Kernel (hKernel := Cert.Kernel.Gen.facts) := fun m ρ _ => by
  rw [defs_eq (f := Cert.Kernel.Gen.facts) (g := Cert.KernelIdeal.Gen.facts)]
  exact frame_any (F := Bits) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Gn

end
-- ==== Proof.Sums.lean ====
module

public import Mathlib.Algebra.BigOperators.Fin
public import Mathlib.Data.Fintype.BigOperators
public import Mathlib.Data.EReal.Operations

/-!
# Sums over parts

A sum over the indices that drop to one index is a sum over the coordinates that were dropped; a sum over a range cut in
equal parts is the sum of the parts' sums; a sum of finite numbers is the number.
-/

@[expose] public section

namespace Cert.Gn

/-- The indices that `drop` to `j`, listed by `put`, summed. -/
theorem sum_dropped {ι κ J M : Type} [Fintype ι] [Fintype κ] [DecidableEq J] [AddCommMonoid M] (drop : ι → J) (j : J)
    (put : κ → ι) (get : ι → κ) (hput : ∀ k, drop (put k) = j) (hget : ∀ k, get (put k) = k)
    (hback : ∀ i, drop i = j → put (get i) = i) (f : ι → M) :
    ∑ i ∈ Finset.univ.filter (fun i => drop i = j), f i = ∑ k, f (put k) :=
  (Finset.sum_bij' (fun k _ => put k) (fun i _ => get i)
    (fun k _ => Finset.mem_filter.mpr ⟨Finset.mem_univ _, hput k⟩) (fun _ _ => Finset.mem_univ _)
    (fun k _ => hget k) (fun i hi => hback i (Finset.mem_filter.mp hi).2) (fun _ _ => rfl)).symm

/-- A sum over `a` parts of `b` terms each. -/
theorem sum_parts {M : Type} [AddCommMonoid M] (a b n : ℕ) (hn : n = a * b) (f : Fin n → M) :
    ∑ i, f i = ∑ k : Fin a, ∑ q : Fin b, f ⟨b * k.val + q.val, by
      have := k.isLt; have := q.isLt
      calc b * k.val + q.val < b * k.val + b := by omega
        _ = b * (k.val + 1) := by ring
        _ ≤ b * a := Nat.mul_le_mul_left _ k.isLt
        _ = n := by rw [hn, Nat.mul_comm]⟩ := by
  subst hn
  rw [← Equiv.sum_comp finProdFinEquiv, Fintype.sum_prod_type]
  refine Finset.sum_congr rfl fun k _ => Finset.sum_congr rfl fun q _ => congrArg f (Fin.ext ?_)
  simp only [finProdFinEquiv_apply_val]
  exact Nat.add_comm _ _

/-- The sum of finitely many finite numbers among the extended reals. -/
theorem coe_sum {ι : Type} [Fintype ι] (f : ι → ℝ) : (((∑ i, f i : ℝ)) : EReal) = ∑ i, (f i : EReal) :=
  map_sum ({ toFun := Real.toEReal, map_zero' := rfl, map_add' := EReal.coe_add } : ℝ →+ EReal) f Finset.univ

end Cert.Gn
-- ==== Proof.Equation.lean ====
module

public import proofs.«01_k».proof.Proof.Sums
public import Idealize.ShloMosaic.PureOps.Ideal
public import Idealize.ShloMosaic.Lib.IdealHost
public import Mathlib.Tactic.FieldSimp
public import Mathlib.Tactic.Linarith
public import Mathlib.Tactic.Positivity

/-!
# The equation

The kernel multiplies by the reciprocal root of the mean of the squares less the square of the mean, and by the
logistic; the reference divides by the root of the mean squared difference, and by one plus an exponential. On finite
numbers the two are one.
-/

@[expose] public section

noncomputable section

namespace Cert.Gn

open Idealize.ShloMosaic

/-- The count `0x47800000` is 65536. -/
theorem count_eq : Ideal.ofBits .f32 0x47800000#32 = ((65536 : ℝ) : EReal) := by
  simp [Ideal.ofBits, Ideal.ieee, -EReal.coe_mul]; norm_num

/-- The constant `0x3727C5AC` is a positive number. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- A normalised entry times its logistic: `x` less `mu`, times `inv`. -/
def act (x mu inv : EReal) : EReal := (x - mu) * inv * Ideal.logistic ((x - mu) * inv)

/-- The mean squared difference from the mean is the mean of the squares less the square of the mean. -/
theorem variance {ι : Type} [Fintype ι] (f : ι → ℝ) (N : ℝ) (hN : (Fintype.card ι : ℝ) = N) (h0 : N ≠ 0) :
    (∑ i, (f i - (∑ i, f i) / N) * (f i - (∑ i, f i) / N)) / N = (∑ i, f i * f i) / N - (∑ i, f i) / N * ((∑ i, f i) / N) := by
  set m := (∑ i, f i) / N with hm
  have hS : ∑ i, f i = m * N := by rw [hm]; field_simp
  have : ∑ i, (f i - m) * (f i - m) = ∑ i, f i * f i - 2 * m * ∑ i, f i + N * (m * m) := by
    rw [← hN, ← nsmul_eq_mul, ← Finset.card_univ, ← Finset.sum_const, Finset.mul_sum, ← Finset.sum_sub_distrib, ← Finset.sum_add_distrib]
    exact Finset.sum_congr rfl fun i _ => by ring
  rw [this, hS]
  field_simp
  ring

/-- Over a positive number, an extended real's quotient of a number is the number's. -/
theorem div_real (a b : ℝ) (h : b ≠ 0) : Ideal.div (a : EReal) (b : EReal) = ((a / b : ℝ) : EReal) := by
  rw [Ideal.div_coe h, ← EReal.coe_mul, mul_one_div]

/-- The kernel's activation is the reference's, for finitely many finite numbers `f`, `65536` of them, and one more, `x`. -/
theorem act_eq {ι : Type} [Fintype ι] (hι : Fintype.card ι = 65536) (f : ι → ℝ) (x : ℝ) (n e mu : EReal) (hn : n = Ideal.ofBits .f32 0x47800000#32)
    (he : e = Ideal.ofBits .f32 0x3727C5AC#32) (hmu : mu = Ideal.div (∑ i, (f i : EReal)) n) (h : EReal)
    (hh : h = Ideal.div ((x : EReal) - mu) (Ideal.sqrt (Ideal.div (∑ i, ((f i : EReal) - mu) * ((f i : EReal) - mu)) n + e))) :
    act x mu (Ideal.rsqrt (Ideal.div (∑ i, (f i : EReal) * (f i : EReal)) n - mu * mu + e)) = Ideal.div h (1 + Ideal.exp (-h)) := by
  obtain ⟨ε, hε, hεe⟩ := eps_pos
  rw [count_eq] at hn
  rw [hεe] at he
  have hmu' : mu = (((∑ i, f i) / 65536 : ℝ) : EReal) := by rw [hmu, hn, ← coe_sum, div_real _ _ (by norm_num)]
  set m : ℝ := (∑ i, f i) / 65536 with hm
  set v : ℝ := (∑ i, f i * f i) / 65536 - m * m with hv
  have hvar : (∑ i, (f i - m) * (f i - m)) / 65536 = v := variance f 65536 (by rw [hι]; norm_num) (by norm_num)
  have hv0 : 0 ≤ v := by rw [← hvar]; exact div_nonneg (Finset.sum_nonneg fun i _ => mul_self_nonneg _) (by norm_num)
  have hpos : 0 < v + ε := by linarith
  have hroot : Real.sqrt (v + ε) ≠ 0 := (Real.sqrt_pos.mpr hpos).ne'
  set t : ℝ := (x - m) / Real.sqrt (v + ε) with ht
  have e1 : Ideal.div (∑ i, ((f i : EReal) - mu) * ((f i : EReal) - mu)) n + e = ((v + ε : ℝ) : EReal) := by
    rw [EReal.coe_add, ← hvar, ← div_real _ _ (by norm_num), coe_sum, hn, he, hmu']
    simp only [EReal.coe_mul, EReal.coe_sub]
  have e2 : Ideal.div (∑ i, (f i : EReal) * (f i : EReal)) n - mu * mu + e = ((v + ε : ℝ) : EReal) := by
    rw [EReal.coe_add, hv, EReal.coe_sub, ← div_real _ _ (by norm_num), coe_sum, hn, he, hmu']
    simp only [EReal.coe_mul]
  have e3 : h = (t : EReal) := by
    rw [hh, e1, Ideal.sqrt_coe, if_neg hpos.not_gt, hmu', ← EReal.coe_sub, div_real _ _ hroot]
  have e4 : ((x : EReal) - mu) * Ideal.rsqrt ((v + ε : ℝ) : EReal) = (t : EReal) := by
    rw [Ideal.rsqrt_coe, if_neg hpos.not_gt, if_neg hpos.ne', hmu', ← EReal.coe_sub, ← EReal.coe_mul, ht, div_eq_mul_inv]
  have hexp : (1 : ℝ) + Real.exp (-t) ≠ 0 := by positivity
  unfold act
  rw [e2, e4, Ideal.logistic_coe, e3, ← EReal.coe_neg, Ideal.exp_coe, ← EReal.coe_one, ← EReal.coe_add, div_real _ _ hexp, ← EReal.coe_mul, div_eq_mul_inv]

end Cert.Gn

end
-- ==== Proof.Value.lean ====
module

public import proofs.«01_k».proof.Proof.Block
public import proofs.«01_k».proof.Proof.Equation
public import Idealize.ShloMosaic.Lib.Pointwise
public import Idealize.ShloMosaic.Lib.Pipeline.ValueKit.Tiles

/-!
# What one device computes, element by element

The values of Block.lean read at an index, with floats as extended reals: a device's two sums as sums over its rows and
columns, the totals as sums over the four devices, and the result as a sum over the 64 channels.
-/

@[expose] public section

noncomputable section

namespace Cert.Gn

open Cert.KernelIdeal Cert.KernelIdeal.Gen
open Idealize.ShloMosaic Idealize.ShloMosaic.TcCoe

/-! ## The device's own sums -/

/-- The sum over a device's rows and columns, at one batch entry and channel. -/
def devSum (X : XT Ideal) (b : Fin 2) (ch : Fin 64) : EReal := ∑ r : Fin 128, ∑ w : Fin 128, X (ix4 b r ch w)

/-- A chunk reduced over rows and columns is the sum over its 16 rows and 128 columns. -/
theorem chunk_sum (x : FVec Ideal S2x16x64x128 .f32) (b : Fin 2) (ch : Fin 64) :
    Ideal.reduceAdd reduces_S2x16x64x128_S2x64 x (ix2 b ch) = ∑ r : Fin 16, ∑ w : Fin 128, x (ix4 b r ch w) := by
  rw [← Fintype.sum_prod_type']
  refine sum_dropped _ _ (fun k : Fin 16 × Fin 128 => ix4 b k.1 ch k.2) (fun i => (i 1, i 3)) (fun k => ?_) (fun _ => rfl) (fun i hi => ?_) x
  · idx_ext
  · have h0 : i 0 = b := congrFun hi 0
    have h2 : i 2 = ch := congrFun hi 1
    subst h0 h2
    exact (eq_ix4 i).symm

/-- Eight chunks' sums are the sum over all 128 rows. -/
theorem eight_chunks (X : XT Ideal) (b : Fin 2) (ch : Fin 64) :
    devSum X b ch = ∑ k : Fin 8, ∑ q : Fin 16, ∑ w : Fin 128, X (ix4 b ⟨16 * k.val + q.val, by omega⟩ ch w) :=
  sum_parts 8 16 128 rfl fun r => ∑ w : Fin 128, X (ix4 b r ch w)

/-- The device's first sum. -/
theorem sum1_at (X : XT Ideal) (b : Fin 2) (ch : Fin 64) : sum1 X (ix2 b ch) = devSum X b ch := by
  rw [eight_chunks, Fin.sum_univ_eight]
  pointwise [sum1, k0_pay7, part1, k0_pay5, k0_pay3, k0_pay1]
  simp only [chunk_sum]
  pointwise [chunk0, chunk1, chunk2, chunk3, chunk4, chunk5, chunk6, chunk7]

/-- The device's second sum is that of the squares. -/
theorem sum2_at (X : XT Ideal) (b : Fin 2) (ch : Fin 64) : sum2 X (ix2 b ch) = devSum (fun i => X i * X i) b ch := by
  rw [eight_chunks, Fin.sum_univ_eight]
  pointwise [sum2, k0_pay8, part2, k0_pay6, k0_pay4, k0_pay2]
  simp only [chunk_sum]
  pointwise [chunk0, chunk1, chunk2, chunk3, chunk4, chunk5, chunk6, chunk7]

/-! ## What it publishes, and what it receives -/

/-- Row 0 of the published pair is the sum, row 1 the sum of squares. -/
theorem ownF_at (X : XT Ideal) (b : Fin 2) (ch : Fin 64) :
    ownF X (ix3 0 b ch) = devSum X b ch ∧ ownF X (ix3 1 b ch) = devSum (fun i => X i * X i) b ch := by
  have h : ∀ y : S2x2x64.Idx, ownF X y = if (y 0).val = 0 then devSum X (y 1) (y 2) else devSum (fun i => X i * X i) (y 1) (y 2) := fun y => by
    refine View.canon_apply_of_pieces (Val := Elt Ideal) (S := S2x2x64) (e := .f32) (fun y => if (y 0).val = 0 then devSum X (y 1) (y 2) else devSum (fun i => X i * X i) (y 1) (y 2)) _
      (fun p hp x => ?_) y (View.cover_of_tiled (s := S2x2x64) _ S1x2x64.size rfl y)
    simp only [List.mem_cons, List.not_mem_nil, or_false] at hp
    obtain rfl | rfl := hp
    · obtain ⟨z, b, ch, rfl⟩ : ∃ (z : Fin 1) (b : Fin 2) (ch : Fin 64), x = ix3 z b ch := ⟨x 0, x 1, x 2, eq_ix3 x⟩
      obtain rfl := Fin.fin_one_eq_zero z
      rw [show (Rect.unit (s := S2x2x64) ![1, 0, 0] S1x2x64.size inb_S2x2x64_S1x2x64_1_0_0).emb (ix3 0 b ch) = ix3 1 b ch from by idx_ext]
      refine Eq.trans ?_ (sum2_at X b ch)
      pointwise [k0_pay10]
    · obtain ⟨z, b, ch, rfl⟩ : ∃ (z : Fin 1) (b : Fin 2) (ch : Fin 64), x = ix3 z b ch := ⟨x 0, x 1, x 2, eq_ix3 x⟩
      obtain rfl := Fin.fin_one_eq_zero z
      rw [show (Rect.unit (s := S2x2x64) ![0, 0, 0] S1x2x64.size inb_S2x2x64_S1x2x64_0_0_0).emb (ix3 0 b ch) = ix3 0 b ch from by idx_ext]
      refine Eq.trans ?_ (sum1_at X b ch)
      pointwise [k0_pay9, sum1, k0_pay7]
  exact ⟨h _, h _⟩

/-- The slot of device `c`'s transfer `k` holds what the device it comes from publishes. -/
theorem stF_at (A : Dev nD → XT Ideal) (c : Dev nD) (k : Fin 3) (r b : Fin 2) (ch : Fin 64) :
    stF A c (ix4 k r b ch) = ownF (A (pe k.rev c)) (ix3 r b ch) := by
  refine congrArg (ownF (A (pe k.rev c))) ?_
  idx_ext

/-- A device and the three it receives from are all four. -/
theorem four_devices {M : Type} [AddCommMonoid M] (g : Dev nD → M) (c : Dev nD) :
    g c + g (pe (Fin.rev 0) c) + g (pe (Fin.rev 1) c) + g (pe (Fin.rev 2) c) = ∑ d, g d := by
  rw [show (∑ d, g d) = g 0 + g 1 + g 2 + g 3 from Fin.sum_univ_four g]
  fin_cases c
  · show g 0 + g 3 + g 2 + g 1 = _; abel
  · show g 1 + g 0 + g 3 + g 2 = _; abel
  · show g 2 + g 1 + g 0 + g 3 = _; abel
  · show g 3 + g 2 + g 1 + g 0 = _; abel

/-! ## The statistics -/

variable (A : Dev nD → XT Ideal) (c : Dev nD)

/-- The total of the sums, over the four devices; -/
theorem tot1_at (b : Fin 2) (ch : Fin 64) : tot1 (A c) (stF A c) (ix2 b ch) = ∑ d, devSum (A d) b ch := by
  rw [← four_devices _ c]
  pointwise [tot1, k0_pay11, slotRow]
  simp only [stF_at, sum1_at, (ownF_at _ b ch).1]

/-- the mean, the total over 65536 (`0x47800000` is 65536); -/
theorem meanF_at (b : Fin 2) (ch : Fin 64) :
    meanF (A c) (stF A c) (ix4 b 0 ch 0) = Ideal.div (∑ d, devSum (A d) b ch) (Ideal.ofBits .f32 0x47800000#32) := by
  pointwise [meanF, k0_pay13, k0_pay12]
  rw [tot1_at]

/-- the reciprocal root of the mean of the squares less the square of the mean, plus epsilon (`0x3727C5AC`). -/
theorem invF_at (b : Fin 2) (ch : Fin 64) :
    invF (A c) (stF A c) (ix4 b 0 ch 0)
      = Ideal.rsqrt (Ideal.div (∑ d, devSum (fun i => A d i * A d i) b ch) (Ideal.ofBits .f32 0x47800000#32)
          - Ideal.div (∑ d, devSum (A d) b ch) (Ideal.ofBits .f32 0x47800000#32) * Ideal.div (∑ d, devSum (A d) b ch) (Ideal.ofBits .f32 0x47800000#32)
          + Ideal.ofBits .f32 0x3727C5AC#32) := by
  rw [← four_devices (fun d => devSum (fun i => A d i * A d i) b ch) c]
  pointwise [invF, k0_pay14, k0_pay12, slotRow]
  simp only [stF_at, tot1_at, sum2_at, (ownF_at _ b ch).2]

/-! ## The result -/

/-- A piece's entry: the sum over the channels of the activated input times the matrix. -/
theorem tile_at (mu inv : FVec Ideal S2x1x64x1 .f32) (W : Vec Ideal S64x128 .f32) (x : Vec Ideal S2x32x64x128 .f32)
    (b : Fin 2) (r : Fin 32) (w o : Fin 128) :
    tile mu inv W x (ix4 b r w o) = ∑ ch : Fin 64, act (x (ix4 b r ch w)) (mu (ix4 b 0 ch 0)) (inv (ix4 b 0 ch 0)) * W (ix2 ch o) := by
  pointwise [tile, k0_pay17, k0_pay15, act]

/-- The sum over the channels that is the entry at `y`. -/
def outAt (X : XT Ideal) (W : Vec Ideal S64x128 .f32) (S : Slots Ideal) (y : S2x128x128x128.Idx) : EReal :=
  ∑ ch : Fin 64, act (X (ix4 (y 0) (y 1) ch (y 2))) (meanF X S (ix4 (y 0) 0 ch 0)) (invF X S (ix4 (y 0) 0 ch 0)) * W (ix2 ch (y 3))

/-- The device's part of the result, entry by entry. -/
theorem outF_at (X : XT Ideal) (W : Vec Ideal S64x128 .f32) (S : Slots Ideal) (b : Fin 2) (r w o : Fin 128) :
    outF X W S (ix4 b r w o)
      = ∑ ch : Fin 64, act (X (ix4 b r ch w)) (meanF X S (ix4 b 0 ch 0)) (invF X S (ix4 b 0 ch 0)) * W (ix2 ch o) := by
  have piece : ∀ (off : ℕ) (hin : ∀ a, (![0, off, 0, 0] : Fin 4 → ℕ) a + S2x32x128x128.size a ≤ S2x128x128x128.size a)
      (hin' : ∀ a, (![0, off, 0, 0] : Fin 4 → ℕ) a + S2x32x64x128.size a ≤ S2x128x64x128.size a) (x : S2x32x128x128.Idx),
      tile (meanF X S) (invF X S) W (View.ld X (Rect.unit (s := S2x128x64x128) ![0, off, 0, 0] S2x32x64x128.size hin')) x
        = outAt X W S ((Rect.unit (s := S2x128x128x128) ![0, off, 0, 0] S2x32x128x128.size hin).emb x) := fun off hin hin' x => by
    obtain ⟨b, r, w, o, rfl⟩ : ∃ (b : Fin 2) (r : Fin 32) (w o : Fin 128), x = ix4 b r w o := ⟨x 0, x 1, x 2, x 3, eq_ix4 x⟩
    have hoff : off + 32 ≤ 128 := hin 1
    rw [tile_at, show (Rect.unit (s := S2x128x128x128) ![0, off, 0, 0] S2x32x128x128.size hin).emb (ix4 b r w o) = ix4 b ⟨off + r.val, by omega⟩ w o from by idx_ext]
    refine Finset.sum_congr rfl fun ch _ => ?_
    rw [show View.ld X (Rect.unit (s := S2x128x64x128) ![0, off, 0, 0] S2x32x64x128.size hin') (ix4 b r ch w) = X (ix4 b ⟨off + r.val, by omega⟩ ch w) from
      congrArg X (by idx_ext)]
    rfl
  refine View.canon_apply_of_pieces (Val := Elt Ideal) (S := S2x128x128x128) (e := .bf16) (outAt X W S) _
    (fun p hp x => ?_) (ix4 b r w o) (View.cover_of_tiled (s := S2x128x128x128) _ S2x32x128x128.size rfl _)
  simp only [List.mem_cons, List.not_mem_nil, or_false] at hp
  obtain rfl | rfl | rfl | rfl := hp
  · exact piece 96 inb_S2x128x128x128_S2x32x128x128_0_96_0_0 _ x
  · exact piece 64 inb_S2x128x128x128_S2x32x128x128_0_64_0_0 _ x
  · exact piece 32 inb_S2x128x128x128_S2x32x128x128_0_32_0_0 _ x
  · exact piece 0 inb_S2x128x128x128_S2x32x128x128_0_0_0_0 _ x

end Cert.Gn
end
-- ==== Proof.RefValue.lean ====
module

public import proofs.«01_k».proof.Proof.Gen.ReferenceIdeal.Run
public import proofs.«01_k».proof.Proof.Equation
public import Idealize.ShloMosaic.Lib.Pointwise
public import Idealize.ShloMosaic.Lib.IdealHost

/-!
# What the reference computes, element by element

The reference's result is cut into its mean, its variance, the normalised input, the activation and the product with
the matrix, and each is read at an index, with floats as extended reals.
-/

@[expose] public section

noncomputable section

namespace Cert.Rf

open Cert.ReferenceIdeal Cert.ReferenceIdeal.Gen
open Idealize.ShloMosaic Idealize.ShloMosaic.TcCoe
open Cert.Gn (sum_dropped count_eq)

variable {F : FTy → Type} [FloatOps F]

/-- The sum over rows and columns divided by 65536. -/
def rMean (x : FVec F S2x512x128x64 .f32) : FVec F S2x1x1x64 .f32 :=
  Host.divf (broadcastInDim S2x1x1x64 ![0, 3] bcast_S2x64_S2x1x1x64_0_3 (Host.reduceAdd x (constant S_ .f32 0x00000000#32) reducesTo_S2x512x128x64_S2x64_d1_2 h_S_))
    (broadcastInDim S2x1x1x64 ![] bcast_S_S2x1x1x64 (constant S_ .f32 0x47800000#32))

/-- The input less a value for each batch entry and channel. -/
def rDiff (x : FVec F S2x512x128x64 .f32) (mu : FVec F S2x1x1x64 .f32) : FVec F S2x512x128x64 .f32 :=
  subf x (broadcastInDim S2x512x128x64 ![0, 1, 2, 3] bcast_S2x1x1x64_S2x512x128x64_0_1_2_3 mu)

/-- How many entries the variance is taken over: 65536 less the correction, zero. -/
def rCount : FVec F S_ .f32 := subf (constant S_ .f32 0x47800000#32) (sitofp .f32 (constantI S_ 32 0#32))

/-- The sum of the squared differences from the mean over that count, if the count is positive. -/
def rVar (d : FVec F S2x512x128x64 .f32) : FVec F S2x1x1x64 .f32 :=
  select (broadcastInDim S2x1x1x64 ![] bcast_S_S2x1x1x64 (cmpf .ogt (rCount (F := F)) (constant S_ .f32 0x00000000#32)))
    (Host.divf (broadcastInDim S2x1x1x64 ![0, 3] bcast_S2x64_S2x1x1x64_0_3 (Host.reduceAdd (mulf d d) (constant S_ .f32 0x00000000#32) reducesTo_S2x512x128x64_S2x64_d1_2 h_S_))
      (broadcastInDim S2x1x1x64 ![] bcast_S_S2x1x1x64 (rCount (F := F))))
    (broadcastInDim S2x1x1x64 ![] bcast_S_S2x1x1x64 (id (constant S_ .f32 0x7FC00000#32)))

/-- The differences over the root of the variance plus epsilon. -/
def rNorm (d : FVec F S2x512x128x64 .f32) (var : FVec F S2x1x1x64 .f32) : FVec F S2x512x128x64 .f32 :=
  Host.divf d (broadcastInDim S2x512x128x64 ![0, 1, 2, 3] bcast_S2x1x1x64_S2x512x128x64_0_1_2_3
    (Host.sqrt (addf var (broadcastInDim S2x1x1x64 ![] bcast_S_S2x1x1x64 (constant S_ .f32 0x3727C5AC#32)))))

/-- `h / (1 + exp (-h))`. -/
def rAct (h : FVec F S2x512x128x64 .f32) : FVec F S2x512x128x64 .f32 :=
  Host.divf h (addf (broadcastInDim S2x512x128x64 ![] bcast_S_S2x512x128x64 (constant S_ .f32 0x3F800000#32)) (Host.exp (Host.negf h)))

/-- The product with the matrix over the channels, rounded. -/
def rMul (a : FVec F S2x512x128x64 .f32) (w : FVec F S64x128 .f32) : FVec F S2x512x128x128 .bf16 :=
  truncf .bf16 (shapeCast _ (Host.dotGeneral dot_S131072x64_S64x128_S131072x128_1_0_0_1_n_n none (shapeCast _ a shapeCasts_S2x512x128x64_S131072x64) w)
    shapeCasts_S131072x128_S2x512x128x128) bitsLt_bf16_f32

/-- The reference's result, of its two arguments. -/
def rOut (x : FVec F S2x512x128x64 .f32) (w : FVec F S64x128 .f32) : FVec F S2x512x128x128 .bf16 :=
  rMul (rAct (rNorm (rDiff x (rMean x)) (rVar (rDiff x (rMean x))))) w

/-- It is what the reference's run leaves. -/
theorem res_eq (m : (ℓ : Loc nD τ sig) → Buf (Elt F) ℓ) (c : Dev nD) :
    Cert.ReferenceIdeal.Value.res_out0 m c = rOut (m ((c.tc : Thread nD τ).loc main_arg0)) (m ((c.tc : Thread nD τ).loc main_arg1)) := rfl

/-! ## Read at an index -/

/-- The sum over the rows and columns, at one batch entry and channel. -/
def allSum (x : S2x512x128x64.Idx → EReal) (b : Fin 2) (ch : Fin 64) : EReal := ∑ h : Fin 512, ∑ w : Fin 128, x (ix4 b h w ch)

/-- The reference's reduction over rows and columns is that sum. -/
theorem reduce_at (x : FVec Ideal S2x512x128x64 .f32) (b : Fin 2) (ch : Fin 64) :
    Ideal.hostReduceAdd reducesTo_S2x512x128x64_S2x64_d1_2 x 0 (ix2 b ch) = allSum x b ch := by
  unfold allSum
  rw [← Fintype.sum_prod_type', ← zero_add (∑ _, _)]
  refine congrArg (0 + ·) (sum_dropped _ _ (fun k : Fin 512 × Fin 128 => ix4 b k.1 k.2 ch) (fun i => (i 1, i 2)) (fun k => ?_) (fun _ => rfl) (fun i hi => ?_) x)
  · idx_ext
  · have h0 : i 0 = b := congrFun hi 0
    have h3 : i 3 = ch := congrFun hi 1
    subst h0 h3
    exact (eq_ix4 i).symm

theorem rMean_at (x : FVec Ideal S2x512x128x64 .f32) (b : Fin 2) (ch : Fin 64) :
    rMean x (ix4 b 0 0 ch) = Ideal.div (allSum x b ch) (Ideal.ofBits .f32 0x47800000#32) := by
  pointwise [rMean]
  rw [reduce_at]

theorem rDiff_at (x : FVec Ideal S2x512x128x64 .f32) (mu : FVec Ideal S2x1x1x64 .f32) (b : Fin 2) (h : Fin 512) (w : Fin 128) (ch : Fin 64) :
    rDiff x mu (ix4 b h w ch) = x (ix4 b h w ch) - mu (ix4 b 0 0 ch) := by
  pointwise [rDiff]

theorem rNorm_at (d : FVec Ideal S2x512x128x64 .f32) (var : FVec Ideal S2x1x1x64 .f32) (b : Fin 2) (h : Fin 512) (w : Fin 128) (ch : Fin 64) :
    rNorm d var (ix4 b h w ch) = Ideal.div (d (ix4 b h w ch)) (Ideal.sqrt (var (ix4 b 0 0 ch) + Ideal.ofBits .f32 0x3727C5AC#32)) := by
  pointwise [rNorm]

theorem rAct_at (x : FVec Ideal S2x512x128x64 .f32) (b : Fin 2) (h : Fin 512) (w : Fin 128) (ch : Fin 64) :
    rAct x (ix4 b h w ch) = Ideal.div (x (ix4 b h w ch)) (1 + Ideal.exp (-x (ix4 b h w ch))) := by
  pointwise [rAct]

theorem rVar_at (d : FVec Ideal S2x512x128x64 .f32) (b : Fin 2) (ch : Fin 64) :
    rVar d (ix4 b 0 0 ch) = Ideal.div (allSum (fun i => d i * d i) b ch) (Ideal.ofBits .f32 0x47800000#32) := by
  pointwise [rVar, rCount]
  rw [show (FloatOps.sitofp .f32 (0#32 : BitVec 32) : Ideal .f32) = (0 : EReal) from by show (((0#32).toInt : ℝ) : EReal) = 0; simp, sub_zero, if_pos (by rw [count_eq]; norm_num), reduce_at]
  rfl

theorem rMul_at (a : FVec Ideal S2x512x128x64 .f32) (W : FVec Ideal S64x128 .f32) (b : Fin 2) (h : Fin 512) (w : Fin 128) (o : Fin 128) :
    rMul a W (ix4 b h w o) = ∑ ch : Fin 64, a (ix4 b h w ch) * W (ix2 ch o) := by
  pointwise [rMul]

end Cert.Rf

end
-- ==== Proof.Algebraic.lean ====
module

public import proofs.«01_k».proof.Defs
public import proofs.«01_k».proof.Proof.Frames
public import proofs.«01_k».proof.Proof.Value
public import proofs.«01_k».proof.Proof.RefValue
public import Idealize.ShloMosaic.Lib.ReduceAll

/-!
# The value claim

From blocks of one array of finite numbers, every device ends with its block of what the reference computes.
-/

@[expose] public section

noncomputable section

namespace Cert.Gn

open Cert.KernelIdeal Cert.KernelIdeal.Gen
open Idealize.ShloMosaic Idealize.ShloMosaic.TcCoe Idealize.SL.Sem

/-- What the precondition's function takes of shapes, on a device's block; -/
theorem pre_facts : Cert.Pre_finite_KernelIdeal.Facts := ⟨by decide, by decide, by decide⟩
/-- and on the whole array. -/
theorem pre_facts_ref : Cert.Pre_finite_ReferenceIdeal.Facts := ⟨by decide, by decide, by decide⟩

/-- A block the precondition holds of has only finite entries. -/
theorem finite_of_pre (x : FVec Ideal S2x128x128x64 .f32) (w : FVec Ideal S64x128 .f32)
    (h : @Cert.Pre_finite_KernelIdeal.fn pre_facts Ideal _ x w = fun _ => 1#1) (i : S2x128x128x64.Idx) : x i ≠ ⊤ ∧ x i ≠ ⊥ := by
  have : Subsingleton Cert.Pre_finite_KernelIdeal.S_.Idx := ⟨fun a b => funext fun k => k.elim0⟩
  have h1 := Host.reduce_andi_all _ _ _ _ ix0 (congrFun h ix0) i
  have h2 : max (x i) (-x i) < ⊤ := by
    by_contra hn
    revert h1
    show ¬ (BitVec.ofBool (decide (max (x i) (-x i) < Ideal.ofBits .f32 0x7F800000#32)) = 1#1)
    rw [show Ideal.ofBits .f32 0x7F800000#32 = ⊤ from by simp [Ideal.ofBits, Ideal.ieee], decide_eq_false hn]
    decide
  refine ⟨fun e => ?_, fun e => ?_⟩ <;> simp [e] at h2

/-- The operand at entry to the region is the argument with its last two axes exchanged. -/
theorem inX_at (m : (ℓ : Loc nD τ sig) → Buf (Elt Ideal) ℓ) (c : Dev nD) (b : Fin 2) (r : Fin 128) (ch : Fin 64) (w : Fin 128) :
    inX m c (ix4 b r ch w) = (m ((c.tc : Thread nD τ).loc main_arg0) : FVec Ideal S2x128x128x64 .f32) (ix4 b r w ch) := by
  have : inX m c = transpose S2x128x64x128 [0, 1, 3, 2] (m ((c.tc : Thread nD τ).loc main_arg0) : FVec Ideal S2x128x128x64 .f32) transposes_S2x128x128x64_S2x128x64x128_0_1_3_2 := by
    unfold inX V₁
    after_results_simp
    rfl
  rw [this]
  pointwise []

/-- The matrix there is the argument. -/
theorem inW_eq (m : (ℓ : Loc nD τ sig) → Buf (Elt Ideal) ℓ) (c : Dev nD) : inW m c = m ((c.tc : Thread nD τ).loc main_arg1) := by
  unfold inW V₁
  after_results_simp
  rfl

/-- Row `r` of device `c`'s block is row `128 c + r` of the whole. -/
theorem block_at {α : Type} {C : ℕ} (c : Fin 4) (v : (⟨4, ![2, 512, 128, C]⟩ : Shape).Idx → α)
    (hT : Layout.Tiles ⟨4, ![2, 128, 128, C]⟩ ⟨4, ![2, 512, 128, C]⟩ 1 4) (b : Fin 2) (r w : Fin 128) (o : Fin C) :
    Layout.block ⟨4, ![2, 128, 128, C]⟩ ⟨4, ![2, 512, 128, C]⟩ 1 4 c v hT (ix4 b r w o) = v (ix4 b ⟨128 * c.val + r.val, by omega⟩ w o) := by
  rw [Layout.block_apply]
  refine congrArg v (funext fun a => Fin.ext ?_)
  rw [Layout.Tiles.idx_val]
  fin_cases a
  · rfl
  · exact congrArg (· + r.val) (Nat.mul_comm _ _)
  · rfl
  · rfl

/-- The four devices' sums, each of its rows, are the sum over all rows. -/
theorem four_sums (A : Dev nD → XT Ideal) (x : Cert.ReferenceIdeal.S2x512x128x64.Idx → EReal)
    (hA : ∀ (d : Dev nD) (b : Fin 2) (r : Fin 128) (ch : Fin 64) (w : Fin 128), A d (ix4 b r ch w) = x (ix4 b ⟨128 * d.val + r.val, by have : d.val < 4 := d.isLt; omega⟩ w ch))
    (b : Fin 2) (ch : Fin 64) : ∑ d, devSum (A d) b ch = Cert.Rf.allSum x b ch := by
  unfold Cert.Rf.allSum devSum
  rw [sum_parts 4 128 512 rfl fun h => ∑ w : Fin 128, x (ix4 b h w ch)]
  exact Finset.sum_congr rfl fun d _ => Finset.sum_congr rfl fun r _ => Finset.sum_congr rfl fun w _ => hA d b r ch w

/-- An entry of a device's result is the reference's entry, for a finite input. -/
theorem entry_eq (A : Dev nD → XT Ideal) (x : FVec Ideal Cert.ReferenceIdeal.S2x512x128x64 .f32) (W : Vec Ideal S64x128 .f32)
    (hA : ∀ (d : Dev nD) (b : Fin 2) (r : Fin 128) (ch : Fin 64) (w : Fin 128), A d (ix4 b r ch w) = x (ix4 b ⟨128 * d.val + r.val, by have : d.val < 4 := d.isLt; omega⟩ w ch))
    (hx : ∀ i, x i ≠ ⊤ ∧ x i ≠ ⊥) (c : Dev nD) (b : Fin 2) (r w o : Fin 128) :
    outF (A c) W (stF A c) (ix4 b r w o) = Cert.Rf.rOut x W (ix4 b ⟨128 * c.val + r.val, by have : c.val < 4 := c.isLt; omega⟩ w o) := by
  rw [outF_at]
  unfold Cert.Rf.rOut
  rw [Cert.Rf.rMul_at]
  refine Finset.sum_congr rfl fun ch _ => congrArg (· * W (ix2 ch o)) ?_
  have hS := four_sums A x hA b ch
  have hQ := four_sums (fun d i => A d i * A d i) (fun i => x i * x i) (fun d b r ch w => by rw [hA]) b ch
  obtain ⟨y, rfl⟩ : ∃ y : Cert.ReferenceIdeal.S2x512x128x64.Idx → ℝ, x = fun i => (y i : EReal) :=
    ⟨fun i => (x i).toReal, funext fun i => (EReal.coe_toReal (hx i).1 (hx i).2).symm⟩
  rw [meanF_at, invF_at, hS, hQ, hA, Cert.Rf.rAct_at, Cert.Rf.rNorm_at, Cert.Rf.rVar_at]
  unfold Cert.Rf.allSum
  simp only [Cert.Rf.rDiff_at, Cert.Rf.rMean_at]
  unfold Cert.Rf.allSum
  simp only [← Fintype.sum_prod_type']
  exact act_eq (ι := Fin 512 × Fin 128) (by simp) (fun k => y (ix4 b k.1 k.2 ch)) _ _ _ _ rfl rfl rfl _ rfl

/-- The value claim. -/
theorem algebraic : @Cert.algebraic_KernelIdeal_ReferenceIdeal_pre_finite_KernelIdeal Cert.KernelIdeal.Gen.facts Cert.ReferenceIdeal.Gen.facts pre_facts := by
  intro m g m' g' hpre hblk
  set x : FVec Ideal Cert.ReferenceIdeal.S2x512x128x64 .f32 := m' (((0 : Dev Cert.ReferenceIdeal.nD).tc : Thread Cert.ReferenceIdeal.nD Cert.ReferenceIdeal.τ).loc Cert.ReferenceIdeal.main_arg0) with hxdef
  have hA : ∀ (d : Dev nD) (b : Fin 2) (r : Fin 128) (ch : Fin 64) (w : Fin 128),
      inX m d (ix4 b r ch w) = x (ix4 b ⟨128 * d.val + r.val, by have : d.val < 4 := d.isLt; omega⟩ w ch) := fun d b r ch w => by
    rw [inX_at, (hblk d).1]
    exact block_at d x _ b r w ch
  have hx : ∀ i, x i ≠ ⊤ ∧ x i ≠ ⊥ := fun i => by
    obtain ⟨b, h, w, ch, rfl⟩ : ∃ (b : Fin 2) (h : Fin 512) (w : Fin 128) (ch : Fin 64), i = ix4 b h w ch := ⟨i 0, i 1, i 2, i 3, eq_ix4 i⟩
    let d : Dev nD := ⟨h.val / 128, by show h.val / 128 < 4; omega⟩
    let r : Fin 128 := ⟨h.val % 128, by omega⟩
    have e := finite_of_pre _ _ (hpre d) (ix4 b r w ch)
    rw [← inX_at m d b r ch w, hA] at e
    rwa [show (⟨128 * d.val + r.val, by have : d.val < 4 := d.isLt; omega⟩ : Fin 512) = h from Fin.ext (Nat.div_add_mod h.val 128)] at e
  refine ⟨Cert.ReferenceIdeal.Value.res_out0 m' 0, ?_, ?_⟩
  · refine (θ_run _ _ _).mono (fun r h c => ?_) (run_main m g)
    obtain ⟨h0, h1, h2⟩ := h.1 c
    refine ⟨h2.trans ?_, h0, h1⟩
    funext i
    obtain ⟨b, r, w, o, rfl⟩ : ∃ (b : Fin 2) (r w o : Fin 128), i = ix4 b r w o := ⟨i 0, i 1, i 2, i 3, eq_ix4 i⟩
    refine Eq.trans ?_ (block_at c (Cert.ReferenceIdeal.Value.res_out0 m' 0) _ b r w o).symm
    rw [Cert.Rf.res_eq]
    unfold outV
    rw [inW_eq, (hblk c).2]
    exact entry_eq (inX m) x _ hA hx c b r w o
  · exact (θ_run _ _ _).mono (fun r h => h 0) (Cert.ReferenceIdeal.Value.run m' g')

end Cert.Gn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the kernel and its idealized form, and the reference, run, end and leave nothing in flight; the idealized
    kernel is the kernel's; and on finite inputs its result is the reference's. -/
theorem claim : Cert.Claim := ⟨Cert.Kernel.Gen.facts, Cert.KernelIdeal.Gen.facts, Cert.ReferenceIdeal.Gen.facts,
  Cert.Gn.pre_facts, Cert.Gn.pre_facts_ref,
  Cert.Gn.frame_kernel, Cert.Gn.frame_ideal, fun m g _ => Cert.Gn.frame_ideal m g trivial,
  Cert.Gn.frame_reference, fun m g _ => Cert.Gn.frame_reference m g trivial, trivial, Cert.Gn.algebraic⟩

end Cert.Proof

end
